-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sums_defined [hPre_sums_defined : Cert.Pre_sums_defined.Facts] (m : (ℓ : Loc Cert.KernelIdeal.nD Cert.KernelIdeal.τ Cert.KernelIdeal.sig) → Buf (Elt Ideal) ℓ) : Prop :=
  ∀ c : Dev Cert.KernelIdeal.nD,
    (Cert.Pre_sums_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sums_defined [hPre_sums_defined : Cert.Pre_sums_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sums_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_sums_defined [hKernelIdeal : Cert.KernelIdeal.Facts] [hPre_sums_defined : Cert.Pre_sums_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_sums_defined [hReferenceIdeal : Cert.ReferenceIdeal.Facts] [hPre_sums_defined : Cert.Pre_sums_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sums_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_sums_defined [hKernelIdeal : Cert.KernelIdeal.Facts] [hReferenceIdeal : Cert.ReferenceIdeal.Facts] [hPre_sums_defined : Cert.Pre_sums_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sums_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_sums_defined : Cert.Pre_sums_defined.Facts),
    quiescent_Kernel (hKernel := hKernel)
    ∧ quiescent_KernelIdeal (hKernelIdeal := hKernelIdeal)
    ∧ quiescent_KernelIdeal_pre_sums_defined (hKernelIdeal := hKernelIdeal) (hPre_sums_defined := hPre_sums_defined)
    ∧ quiescent_ReferenceIdeal (hReferenceIdeal := hReferenceIdeal)
    ∧ quiescent_ReferenceIdeal_pre_sums_defined (hReferenceIdeal := hReferenceIdeal) (hPre_sums_defined := hPre_sums_defined)
    ∧ preserves_Kernel_KernelIdeal
    ∧ algebraic_KernelIdeal_ReferenceIdeal_pre_sums_defined (hKernelIdeal := hKernelIdeal) (hReferenceIdeal := hReferenceIdeal) (hPre_sums_defined := hPre_sums_defined)
-- ==== Pre_sums_defined.lean ====
abbrev S64x512x256 : Shape := ⟨3, ![64, 512, 256]⟩
abbrev S1024x768 : Shape := ⟨2, ![1024, 768]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S_ : Shape := ⟨0, ![]⟩

class Facts : Prop where
  bcast_S_S512x1024 : S_.BroadcastsInDim S512x1024 (![] : Fin 0 → Fin S512x1024.rank)

variable [Facts]

def fn {F : FTy → Type} [FloatOps F] (main_arg0 : FVec F S64x512x256 .f32) (main_arg1 : FVec F S1024x768 .f32) (main_arg2 : FVec F S1024 .f32) (main_arg3 : FVec F S1024x1024 .f32) (main_arg4 : FVec F S1024 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_arg11 : FVec F S512x1024 .f32) (main_arg12 : FVec F S512 .f32) : IVec S512x1024 1 :=
  let main_cst : FVec F S_ .f32 := constant S_ .f32 0xFF800000#32
  let main_v0 : FVec F S512x1024 .f32 := broadcastInDim S512x1024 ![] bcast_S_S512x1024 main_cst
  let main_v1 : IVec S512x1024 1 := cmpf .ogt main_arg9 main_v0
  let main_cst_0 : FVec F S_ .f32 := constant S_ .f32 0xFF800000#32
  let main_v2 : FVec F S512x1024 .f32 := broadcastInDim S512x1024 ![] bcast_S_S512x1024 main_cst_0
  let main_v3 : IVec S512x1024 1 := cmpf .ogt main_arg11 main_v2
  let main_v4 : IVec S512x1024 1 := andi main_v1 main_v3
  let main_cst_1 : FVec F S_ .f32 := constant S_ .f32 0x7F800000#32
  let main_v5 : FVec F S512x1024 .f32 := broadcastInDim S512x1024 ![] bcast_S_S512x1024 main_cst_1
  let main_v6 : IVec S512x1024 1 := cmpf .olt main_arg9 main_v5
  let main_cst_2 : FVec F S_ .f32 := constant S_ .f32 0x7F800000#32
  let main_v7 : FVec F S512x1024 .f32 := broadcastInDim S512x1024 ![] bcast_S_S512x1024 main_cst_2
  let main_v8 : IVec S512x1024 1 := cmpf .olt main_arg11 main_v7
  let main_v9 : IVec S512x1024 1 := andi main_v6 main_v8
  let main_v10 : IVec S512x1024 1 := ori main_v4 main_v9
  main_v10
-- ==== Kernel.lean ====
abbrev S64x512x256 : Shape := ⟨3, ![64, 512, 256]⟩
abbrev S1024x768 : Shape := ⟨2, ![1024, 768]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S1024x256 : Shape := ⟨2, ![1024, 256]⟩
abbrev S256x1024 : Shape := ⟨2, ![256, 1024]⟩
abbrev S1024x512 : Shape := ⟨2, ![1024, 512]⟩
abbrev S1024x1536 : Shape := ⟨2, ![1024, 1536]⟩
abbrev S1x1024 : Shape := ⟨2, ![1, 1024]⟩
abbrev S1536 : Shape := ⟨1, ![1536]⟩
abbrev S1x1536 : Shape := ⟨2, ![1, 1536]⟩
abbrev S64x512x512 : Shape := ⟨3, ![64, 512, 512]⟩
abbrev S64x32x256 : Shape := ⟨3, ![64, 32, 256]⟩
abbrev S64x32x512 : Shape := ⟨3, ![64, 32, 512]⟩
abbrev S64x512 : Shape := ⟨2, ![64, 512]⟩
abbrev S32x64x256 : Shape := ⟨3, ![32, 64, 256]⟩
abbrev S32x64x512 : Shape := ⟨3, ![32, 64, 512]⟩
abbrev S1x64x256 : Shape := ⟨3, ![1, 64, 256]⟩
abbrev S64x256 : Shape := ⟨2, ![64, 256]⟩
abbrev S64x1024 : Shape := ⟨2, ![64, 1024]⟩
abbrev S64x1536 : Shape := ⟨2, ![64, 1536]⟩
abbrev S1x64x512 : Shape := ⟨3, ![1, 64, 512]⟩

abbrev nBuf : Space → Nat
  | .hbm => 33
  | .vmem => 14
  | .smem => 0
  | _ => 0

abbrev bufTy : (tb : Table) → Fin (tcTables nBuf tb) → BufTy
  | .hbm, ⟨0, _⟩ => ⟨S64x512x256, .f32⟩
  | .hbm, ⟨1, _⟩ => ⟨S1024x768, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S512x1024, .f32⟩
  | .hbm, ⟨12, _⟩ => ⟨S512, .f32⟩
  | .hbm, ⟨13, _⟩ => ⟨S1024x256, .f32⟩
  | .hbm, ⟨14, _⟩ => ⟨S256x1024, .f32⟩
  | .hbm, ⟨15, _⟩ => ⟨S256x1024, .bf16⟩
  | .hbm, ⟨16, _⟩ => ⟨S1024x512, .f32⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024x512, .f32⟩
  | .hbm, ⟨22, _⟩ => ⟨S1024x512, .f32⟩
  | .hbm, ⟨23, _⟩ => ⟨S512x1024, .f32⟩
  | .hbm, ⟨24, _⟩ => ⟨S1024x512, .f32⟩
  | .hbm, ⟨25, _⟩ => ⟨S1024x1536, .f32⟩
  | .hbm, ⟨26, _⟩ => ⟨S1024x1536, .bf16⟩
  | .hbm, ⟨27, _⟩ => ⟨S1x1024, .f32⟩
  | .hbm, ⟨28, _⟩ => ⟨S1x1024, .f32⟩
  | .hbm, ⟨29, _⟩ => ⟨S512, .f32⟩
  | .hbm, ⟨30, _⟩ => ⟨S1536, .f32⟩
  | .hbm, ⟨31, _⟩ => ⟨S1x1536, .f32⟩
  | .hbm, ⟨32, _⟩ => ⟨S64x512x512, .f32⟩
  | .local _ .vmem, ⟨0, _⟩ => ⟨S64x32x256, .f32⟩
  | .local _ .vmem, ⟨1, _⟩ => ⟨S64x32x256, .f32⟩
  | .local _ .vmem, ⟨2, _⟩ => ⟨S256x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1536, .bf16⟩
  | .local _ .vmem, ⟨6, _⟩ => ⟨S1x1024, .f32⟩
  | .local _ .vmem, ⟨7, _⟩ => ⟨S1x1024, .f32⟩
  | .local _ .vmem, ⟨8, _⟩ => ⟨S1x1536, .f32⟩
  | .local _ .vmem, ⟨9, _⟩ => ⟨S64x32x512, .f32⟩
  | .local _ .vmem, ⟨10, _⟩ => ⟨S64x32x512, .f32⟩
  | .local _ .vmem, ⟨11, _⟩ => ⟨S64x512, .bf16⟩
  | .local _ .vmem, ⟨12, _⟩ => ⟨S32x64x256, .bf16⟩
  | .local _ .vmem, ⟨13, _⟩ => ⟨S32x64x512, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_8 : BitVec 32 := 0#32
  let c32_i32 : BitVec 32 := 32#32
  let v10 : BitVec 32 := Scalar.addi c0_i32_8 c32_i32
  let c1_i32 : BitVec 32 := 1#32
  ⟨c0_i32_8, v10, c1_i32⟩
def k0_off1 (k0_t1 : Fin k0_t1_loop.trips) : Fin 3 → Nat :=
  let c0_i32_8 : BitVec 32 := 0#32
  let c1_i32 : BitVec 32 := 1#32
  let arg13 : BitVec 32 := Scf.iv c0_i32_8 c1_i32 k0_t1
  let v18 : Index := Scalar.indexCast arg13
  let c0_18 : Index := 0#32
  let c0_19 : Index := 0#32
  ![v18.toNat, 0, 0]
def k0_off2 (k0_t1 : Fin k0_t1_loop.trips) : Fin 3 → Nat :=
  let c0_i32_8 : BitVec 32 := 0#32
  let c1_i32 : BitVec 32 := 1#32
  let arg13 : BitVec 32 := Scf.iv c0_i32_8 c1_i32 k0_t1
  let v67 : Index := Scalar.indexCast arg13
  let c0_41 : Index := 0#32
  let c0_42 : Index := 0#32
  ![v67.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S64x512x256 : Shape := ⟨3, ![64, 512, 256]⟩
abbrev S1024x768 : Shape := ⟨2, ![1024, 768]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S_ : Shape := ⟨0, ![]⟩
abbrev S64x512 : Shape := ⟨2, ![64, 512]⟩
abbrev S512x64x256 : Shape := ⟨3, ![512, 64, 256]⟩
abbrev S512x64x512 : Shape := ⟨3, ![512, 64, 512]⟩
abbrev S1x64x256 : Shape := ⟨3, ![1, 64, 256]⟩
abbrev S64x256 : Shape := ⟨2, ![64, 256]⟩
abbrev S64x768 : Shape := ⟨2, ![64, 768]⟩
abbrev S768x1024 : Shape := ⟨2, ![768, 1024]⟩
abbrev S64x1024 : Shape := ⟨2, ![64, 1024]⟩
abbrev S1x1024 : Shape := ⟨2, ![1, 1024]⟩
abbrev S1024x512 : Shape := ⟨2, ![1024, 512]⟩
abbrev S1x512 : Shape := ⟨2, ![1, 512]⟩
abbrev S1x64x512 : Shape := ⟨3, ![1, 64, 512]⟩
abbrev S64x512x512 : Shape := ⟨3, ![64, 512, 512]⟩

abbrev nBuf : Space → Nat
  | .hbm => 114
  | .vmem => 0
  | .smem => 0
  | _ => 0

abbrev bufTy : (tb : Table) → Fin (tcTables nBuf tb) → BufTy
  | .hbm, ⟨0, _⟩ => ⟨S64x512x256, .f32⟩
  | .hbm, ⟨1, _⟩ => ⟨S1024x768, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S512x1024, .f32⟩
  | .hbm, ⟨12, _⟩ => ⟨S512, .f32⟩
  | .hbm, ⟨13, _⟩ => ⟨S_, .f32⟩
  | .hbm, ⟨14, _⟩ => ⟨S64x512, .f32⟩
  | .hbm, ⟨15, _⟩ => ⟨S512x64x256, .f32⟩
  | .hbm, ⟨16, _⟩ => ⟨S_, .f32⟩
  | .hbm, ⟨17, _⟩ => ⟨S_, .f32⟩
  | .hbm, ⟨18, _⟩ => ⟨S512x64x512, .f32⟩
  | .hbm, ⟨19, _⟩ => ⟨S_, .i32⟩
  | .hbm, ⟨20, _⟩ => ⟨S512x64x256, .f32⟩
  | .hbm, ⟨21, _⟩ => ⟨S1024x768, .f32⟩
  | .hbm, ⟨22, _⟩ => ⟨S1024, .f32⟩
  | .hbm, ⟨23, _⟩ => ⟨S1024x1024, .f32⟩
  | .hbm, ⟨24, _⟩ => ⟨S1024, .f32⟩
  | .hbm, ⟨25, _⟩ => ⟨S512x1024, .f32⟩
  | .hbm, ⟨26, _⟩ => ⟨S512, .f32⟩
  | .hbm, ⟨27, _⟩ => ⟨S512x1024, .f32⟩
  | .hbm, ⟨28, _⟩ => ⟨S512, .f32⟩
  | .hbm, ⟨29, _⟩ => ⟨S512x1024, .f32⟩
  | .hbm, ⟨30, _⟩ => ⟨S512, .f32⟩
  | .hbm, ⟨31, _⟩ => ⟨S512x1024, .f32⟩
  | .hbm, ⟨32, _⟩ => ⟨S512, .f32⟩
  | .hbm, ⟨33, _⟩ => ⟨S_, .f32⟩
  | .hbm, ⟨34, _⟩ => ⟨S_, .i32⟩
  | .hbm, ⟨35, _⟩ => ⟨S64x512, .f32⟩
  | .hbm, ⟨36, _⟩ => ⟨S512x64x512, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S1x64x256, .f32⟩
  | .hbm, ⟨42, _⟩ => ⟨S64x256, .f32⟩
  | .hbm, ⟨43, _⟩ => ⟨S64x768, .f32⟩
  | .hbm, ⟨44, _⟩ => ⟨S768x1024, .f32⟩
  | .hbm, ⟨45, _⟩ => ⟨S64x1024, .f32⟩
  | .hbm, ⟨46, _⟩ => ⟨S1x1024, .f32⟩
  | .hbm, ⟨47, _⟩ => ⟨S64x1024, .f32⟩
  | .hbm, ⟨48, _⟩ => ⟨S64x1024, .f32⟩
  | .hbm, ⟨49, _⟩ => ⟨S_, .f32⟩
  | .hbm, ⟨50, _⟩ => ⟨S64x1024, .f32⟩
  | .hbm, ⟨51, _⟩ => ⟨S64x1024, .f32⟩
  | .hbm, ⟨52, _⟩ => ⟨S64x1024, .f32⟩
  | .hbm, ⟨53, _⟩ => ⟨S_, .f32⟩
  | .hbm, ⟨54, _⟩ => ⟨S64x1024, .f32⟩
  | .hbm, ⟨55, _⟩ => ⟨S64x1024, .f32⟩
  | .hbm, ⟨56, _⟩ => ⟨S1024x1024, .f32⟩
  | .hbm, ⟨57, _⟩ => ⟨S64x1024, .f32⟩
  | .hbm, ⟨58, _⟩ => ⟨S1x1024, .f32⟩
  | .hbm, ⟨59, _⟩ => ⟨S64x1024, .f32⟩
  | .hbm, ⟨60, _⟩ => ⟨S64x1024, .f32⟩
  | .hbm, ⟨61, _⟩ => ⟨S_, .f32⟩
  | .hbm, ⟨62, _⟩ => ⟨S64x1024, .f32⟩
  | .hbm, ⟨63, _⟩ => ⟨S64x1024, .f32⟩
  | .hbm, ⟨64, _⟩ => ⟨S64x1024, .f32⟩
  | .hbm, ⟨65, _⟩ => ⟨S_, .f32⟩
  | .hbm, ⟨66, _⟩ => ⟨S64x1024, .f32⟩
  | .hbm, ⟨67, _⟩ => ⟨S64x1024, .f32⟩
  | .hbm, ⟨68, _⟩ => ⟨S1024x512, .f32⟩
  | .hbm, ⟨69, _⟩ => ⟨S64x512, .f32⟩
  | .hbm, ⟨70, _⟩ => ⟨S1x512, .f32⟩
  | .hbm, ⟨71, _⟩ => ⟨S64x512, .f32⟩
  | .hbm, ⟨72, _⟩ => ⟨S64x512, .f32⟩
  | .hbm, ⟨73, _⟩ => ⟨S64x512, .f32⟩
  | .hbm, ⟨74, _⟩ => ⟨S1024x512, .f32⟩
  | .hbm, ⟨75, _⟩ => ⟨S64x512, .f32⟩
  | .hbm, ⟨76, _⟩ => ⟨S1x512, .f32⟩
  | .hbm, ⟨77, _⟩ => ⟨S64x512, .f32⟩
  | .hbm, ⟨78, _⟩ => ⟨S64x512, .f32⟩
  | .hbm, ⟨79, _⟩ => ⟨S64x512, .f32⟩
  | .hbm, ⟨80, _⟩ => ⟨S1024x512, .f32⟩
  | .hbm, ⟨81, _⟩ => ⟨S64x512, .f32⟩
  | .hbm, ⟨82, _⟩ => ⟨S1x512, .f32⟩
  | .hbm, ⟨83, _⟩ => ⟨S64x512, .f32⟩
  | .hbm, ⟨84, _⟩ => ⟨S64x512, .f32⟩
  | .hbm, ⟨85, _⟩ => ⟨S1024x512, .f32⟩
  | .hbm, ⟨86, _⟩ => ⟨S64x512, .f32⟩
  | .hbm, ⟨87, _⟩ => ⟨S1x512, .f32⟩
  | .hbm, ⟨88, _⟩ => ⟨S64x512, .f32⟩
  | .hbm, ⟨89, _⟩ => ⟨S64x512, .f32⟩
  | .hbm, ⟨90, _⟩ => ⟨S64x512, .f32⟩
  | .hbm, ⟨91, _⟩ => ⟨S64x512, .f32⟩
  | .hbm, ⟨92, _⟩ => ⟨S64x512, .f32⟩
  | .hbm, ⟨93, _⟩ => ⟨S64x512, .f32⟩
  | .hbm, ⟨94, _⟩ => ⟨S64x512, .f32⟩
  | .hbm, ⟨95, _⟩ => ⟨S_, .f32⟩
  | .hbm, ⟨96, _⟩ => ⟨S64x512, .f32⟩
  | .hbm, ⟨97, _⟩ => ⟨S64x512, .f32⟩
  | .hbm, ⟨98, _⟩ => ⟨S_, .f32⟩
  | .hbm, ⟨99, _⟩ => ⟨S64x512, .f32⟩
  | .hbm, ⟨100, _⟩ => ⟨S64x512, .f32⟩
  | .hbm, ⟨101, _⟩ => ⟨S_, .f32⟩
  | .hbm, ⟨102, _⟩ => ⟨S64x512, .f32⟩
  | .hbm, ⟨103, _⟩ => ⟨S64x512, .f32⟩
  | .hbm, ⟨104, _⟩ => ⟨S64x512, .f32⟩
  | .hbm, ⟨105, _⟩ => ⟨S64x512, .f32⟩
  | .hbm, ⟨106, _⟩ => ⟨S64x512, .f32⟩
  | .hbm, ⟨107, _⟩ => ⟨S1x64x512, .f32⟩
  | .hbm, ⟨108, _⟩ => ⟨S_, .i32⟩
  | .hbm, ⟨109, _⟩ => ⟨S_, .i32⟩
  | .hbm, ⟨110, _⟩ => ⟨S512x64x512, .f32⟩
  | .hbm, ⟨111, _⟩ => ⟨S_, .i32⟩
  | .hbm, ⟨112, _⟩ => ⟨S_, .i32⟩
  | .hbm, ⟨113, _⟩ => ⟨S64x512x512, .f32⟩
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_cst_1 : Ref sig .tc := ⟨.hbm, 17, rfl⟩
abbrev main_v2 : Ref sig .tc := ⟨.hbm, 18, rfl⟩
abbrev main_c : Ref sig .tc := ⟨.hbm, 19, rfl⟩
abbrev main_v3_0 : Ref sig .tc := ⟨.hbm, 20, rfl⟩
abbrev main_v3_1 : Ref sig .tc := ⟨.hbm, 21, rfl⟩
abbrev main_v3_2 : Ref sig .tc := ⟨.hbm, 22, rfl⟩
abbrev main_v3_3 : Ref sig .tc := ⟨.hbm, 23, rfl⟩
abbrev main_v3_4 : Ref sig .tc := ⟨.hbm, 24, rfl⟩
abbrev main_v3_5 : Ref sig .tc := ⟨.hbm, 25, rfl⟩
abbrev main_v3_6 : Ref sig .tc := ⟨.hbm, 26, rfl⟩
abbrev main_v3_7 : Ref sig .tc := ⟨.hbm, 27, rfl⟩
abbrev main_v3_8 : Ref sig .tc := ⟨.hbm, 28, rfl⟩
abbrev main_v3_9 : Ref sig .tc := ⟨.hbm, 29, rfl⟩
abbrev main_v3_10 : Ref sig .tc := ⟨.hbm, 30, rfl⟩
abbrev main_v3_11 : Ref sig .tc := ⟨.hbm, 31, rfl⟩
abbrev main_v3_12 : Ref sig .tc := ⟨.hbm, 32, rfl⟩
abbrev main_v3_13 : Ref sig .tc := ⟨.hbm, 33, rfl⟩
abbrev main_v3_14 : Ref sig .tc := ⟨.hbm, 34, rfl⟩
abbrev main_v3_15 : Ref sig .tc := ⟨.hbm, 35, rfl⟩
abbrev main_v3_16 : Ref sig .tc := ⟨.hbm, 36, rfl⟩
abbrev main_while0c_c_18 : Ref sig .tc := ⟨.hbm, 37, rfl⟩
abbrev main_while0c_v5 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_v0 : Ref sig .tc := ⟨.hbm, 41, rfl⟩
abbrev main_while0b_v5 : Ref sig .tc := ⟨.hbm, 42, rfl⟩
abbrev main_while0b_v6 : Ref sig .tc := ⟨.hbm, 43, rfl⟩
abbrev main_while0b_v7 : Ref sig .tc := ⟨.hbm, 44, rfl⟩
abbrev main_while0b_v8 : Ref sig .tc := ⟨.hbm, 45, rfl⟩
abbrev main_while0b_v9 : Ref sig .tc := ⟨.hbm, 46, rfl⟩
abbrev main_while0b_v10 : Ref sig .tc := ⟨.hbm, 47, rfl⟩
abbrev main_while0b_v11 : Ref sig .tc := ⟨.hbm, 48, rfl⟩
abbrev main_while0b_cst_18 : Ref sig .tc := ⟨.hbm, 49, rfl⟩
abbrev main_while0b_v12 : Ref sig .tc := ⟨.hbm, 50, rfl⟩
abbrev main_while0b_v13 : Ref sig .tc := ⟨.hbm, 51, rfl⟩
abbrev main_while0b_v14 : Ref sig .tc := ⟨.hbm, 52, rfl⟩
abbrev main_while0b_cst_19 : Ref sig .tc := ⟨.hbm, 53, rfl⟩
abbrev main_while0b_v15 : Ref sig .tc := ⟨.hbm, 54, rfl⟩
abbrev main_while0b_v16 : Ref sig .tc := ⟨.hbm, 55, rfl⟩
abbrev main_while0b_v17 : Ref sig .tc := ⟨.hbm, 56, rfl⟩
abbrev main_while0b_v18 : Ref sig .tc := ⟨.hbm, 57, rfl⟩
abbrev main_while0b_v19 : Ref sig .tc := ⟨.hbm, 58, rfl⟩
abbrev main_while0b_v20 : Ref sig .tc := ⟨.hbm, 59, rfl⟩
abbrev main_while0b_v21 : Ref sig .tc := ⟨.hbm, 60, rfl⟩
abbrev main_while0b_cst_20 : Ref sig .tc := ⟨.hbm, 61, rfl⟩
abbrev main_while0b_v22 : Ref sig .tc := ⟨.hbm, 62, rfl⟩
abbrev main_while0b_v23 : Ref sig .tc := ⟨.hbm, 63, rfl⟩
abbrev main_while0b_v24 : Ref sig .tc := ⟨.hbm, 64, rfl⟩
abbrev main_while0b_cst_21 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_v48 : Ref sig .tc := ⟨.hbm, 89, rfl⟩
abbrev main_while0b_v49 : Ref sig .tc := ⟨.hbm, 90, rfl⟩
abbrev main_while0b_v50 : Ref sig .tc := ⟨.hbm, 91, rfl⟩
abbrev main_while0b_v51 : Ref sig .tc := ⟨.hbm, 92, rfl⟩
abbrev main_while0b_v52 : Ref sig .tc := ⟨.hbm, 93, rfl⟩
abbrev main_while0b_v53 : Ref sig .tc := ⟨.hbm, 94, rfl⟩
abbrev main_while0b_cst_22 : Ref sig .tc := ⟨.hbm, 95, rfl⟩
abbrev main_while0b_v54 : Ref sig .tc := ⟨.hbm, 96, rfl⟩
abbrev main_while0b_v55 : Ref sig .tc := ⟨.hbm, 97, rfl⟩
abbrev main_while0b_cst_23 : Ref sig .tc := ⟨.hbm, 98, rfl⟩
abbrev main_while0b_v56 : Ref sig .tc := ⟨.hbm, 99, rfl⟩
abbrev main_while0b_v57 : Ref sig .tc := ⟨.hbm, 100, rfl⟩
abbrev main_while0b_cst_24 : Ref sig .tc := ⟨.hbm, 101, rfl⟩
abbrev main_while0b_v58 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_v62 : Ref sig .tc := ⟨.hbm, 106, rfl⟩
abbrev main_while0b_call1_v0 : Ref sig .tc := ⟨.hbm, 107, rfl⟩
abbrev main_while0b_call1_c : Ref sig .tc := ⟨.hbm, 108, rfl⟩
abbrev main_while0b_call1_c_0 : Ref sig .tc := ⟨.hbm, 109, rfl⟩
abbrev main_while0b_v63 : Ref sig .tc := ⟨.hbm, 110, rfl⟩
abbrev main_while0b_c_25 : Ref sig .tc := ⟨.hbm, 111, rfl⟩
abbrev main_while0b_v64 : Ref sig .tc := ⟨.hbm, 112, rfl⟩
abbrev main_v4 : Ref sig .tc := ⟨.hbm, 113, rfl⟩

abbrev nD : Nat := 1
abbrev τ : Topo := Topo.v7x

variable {F : FTy → Type} [FloatOps F]

abbrev main_while0_count : Scf.Loop 32 := ⟨0#32, 512#32, 1#32⟩
-- ==== Proof.KernelIdealLoop.lean ====
/- The time loop of one grid point: the value it carries from trip to trip, and the rows it leaves in the scratch
   buffer that collects the hidden states. The run of the body (KernelIdealBody.lean) meets this loop as the generated
   recursion `st_k0_t1`; here that recursion is read as two functions of the values the buffers hold. -/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The weights and biases one step of the cell reads, as the windows hold them. -/
structure Weights (F : FTy → Type) where
  /-- input rows of the first layer, -/
  wx : Vec F S256x1024 .bf16
  /-- hidden rows of the first layer, -/
  wh : Vec F S512x1024 .bf16
  /-- the second layer, -/
  w2 : Vec F S1024x1024 .bf16
  /-- the three heads side by side, -/
  wd : Vec F S1024x1536 .bf16
  /-- and the three biases. -/
  b1 : Vec F S1x1024 .f32
  b2 : Vec F S1x1024 .f32
  bd : Vec F S1x1536 .f32

/-- Trip `k`'s slab of the transposed input block. -/
def slab (xp : Vec F S32x64x256 .bf16) (k : Fin k0_t1_loop.trips) : Vec F S1x64x256 .bf16 :=
  fun j => xp ((Rect.unit (s := S32x64x256) (k0_off1 k) S1x64x256.size (k0_off1_inb k)).idx j)

/-- The three heads of one step before their bias, from the hidden state `h` and the input slab `r`. -/
def heads (w : Weights F) (h : Vec F S64x512 .bf16) (r : Vec F S1x64x256 .bf16) : FVec F S64x1536 .f32 :=
  k0_pay8 h r w.wx w.b1 w.wh w.w2 w.b2 w.wd

/-- The hidden state before trip `k`, from the one before trip 0. -/
def carry (w : Weights F) (xp : Vec F S32x64x256 .bf16) (h0 : Vec F S64x512 .bf16) : ℕ → Vec F S64x512 .bf16
  | 0 => h0
  | k + 1 => if h : k < k0_t1_loop.trips then k0_pay5 (heads w (carry w xp h0 k) (slab xp ⟨k, h⟩)) w.bd else carry w xp h0 k

theorem carry_succ (w : Weights F) (xp : Vec F S32x64x256 .bf16) (h0 : Vec F S64x512 .bf16) (k : Fin k0_t1_loop.trips) :
    carry w xp h0 (k.val + 1) = k0_pay5 (heads w (carry w xp h0 k.val) (slab xp k)) w.bd := by
  rw [carry, dif_pos k.isLt]

/-- What trip `k` stores: the new hidden state, as one slab. -/
def rowOut (w : Weights F) (xp : Vec F S32x64x256 .bf16) (h0 : Vec F S64x512 .bf16) (k : Fin k0_t1_loop.trips) : Vec F S1x64x512 .f32 :=
  k0_pay4 (heads w (carry w xp h0 k.val) (slab xp k)) w.bd

theorem trips_eq : k0_t1_loop.trips = 32 := by decide +kernel

/-- Where an index of the collecting buffer lies within its slab. -/
def inSlab (y : S32x64x512.Idx) : S1x64x512.Idx
  | ⟨0, _⟩ => (⟨0, Nat.one_pos⟩ : Fin 1)
  | ⟨1, _⟩ => y 1
  | ⟨2, _⟩ => y 2

theorem inSlab_val (y : S32x64x512.Idx) (k : ℕ) (hk : (y 0).val = k) :
    ∀ a, (y a).val = (![k, 0, 0] : Fin 3 → ℕ) a + (inSlab y a).val
  | ⟨0, _⟩ => hk
  | ⟨1, _⟩ => (Nat.zero_add _).symm
  | ⟨2, _⟩ => (Nat.zero_add _).symm

/-- The thirty-two stored slabs, one above the other. -/
def rows (w : Weights F) (xp : Vec F S32x64x256 .bf16) (h0 : Vec F S64x512 .bf16) : Vec F S32x64x512 .f32 := fun y =>
  rowOut w xp h0 ⟨(y 0).val, Nat.lt_of_lt_of_eq (y 0).isLt trips_eq.symm⟩
    (inSlab y)

section Loop

variable (𝒱 : Variants) (c : Dev nD) (bd : Option 𝒱.V) (i : grid0.Coords) (arg1 : Memref sig .tc .vmem S64x32x256 .f32) (harg1 : arg1.IsWhole) (arg2 : Memref sig .tc .vmem S256x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1536 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1536 .f32) (harg8 : arg8.IsWhole) (arg9 : Memref sig .tc .vmem S64x32x512 .f32) (harg9 : arg9.IsWhole) (arg10 : Memref sig .tc .vmem S64x512 .bf16) (harg10 : arg10.IsWhole) (arg11 : Memref sig .tc .vmem S32x64x256 .bf16) (harg11 : arg11.IsWhole) (arg12 : Memref sig .tc .vmem S32x64x512 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg11 : BufTy.Contents (Elt F) arg11.view.ty)
  (w : Weights F) (xp : Vec F S32x64x256 .bf16)
  (h2 : arg2.view.read (Elt F) X_arg2 = w.wx) (h3 : arg3.view.read (Elt F) X_arg3 = w.wh) (h4 : arg4.view.read (Elt F) X_arg4 = w.w2)
  (h5 : arg5.view.read (Elt F) X_arg5 = w.wd) (h6 : arg6.view.read (Elt F) X_arg6 = w.b1) (h7 : arg7.view.read (Elt F) X_arg7 = w.b2)
  (h8 : arg8.view.read (Elt F) X_arg8 = w.bd) (h11 : arg11.view.read (Elt F) X_arg11 = xp)

include h2 h3 h4 h5 h6 h7 h8 h11

/-- One trip yields the new hidden state. -/
theorem trip_yield (k : Fin k0_t1_loop.trips) (acc : Vec F S64x512 .bf16) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 k acc = k0_pay5 (heads w acc (slab xp k)) w.bd := by
  unfold tripR_k0_t1 trip_k0_t1
  dsimp only
  unfold trip_k0_t1.sl.r heads
  rw [← h2, ← h3, ← h4, ← h5, ← h6, ← h7, ← h8, ← h11]
  exact congrArg₂ k0_pay5 (by
    congr 1 <;> first | rfl | exact View.readAt_full _ _ _) (View.readAt_full _ _ _)

/-- One trip stores the new hidden state at its slab of the collecting buffer. -/
theorem trip_stores (k : Fin k0_t1_loop.trips) (acc : Vec F S64x512 .bf16) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 k acc
      = [⟨Rect.unit (s := S32x64x512) (k0_off2 k) S1x64x512.size (k0_off2_inb k), k0_pay4 (heads w acc (slab xp k)) w.bd⟩] := by
  unfold tripL_k0_t1 trip_k0_t1
  dsimp only
  unfold trip_k0_t1.sl.r heads
  rw [← h2, ← h3, ← h4, ← h5, ← h6, ← h7, ← h8, ← h11]
  exact congrArg (fun p => [(⟨Rect.unit (s := S32x64x512) (k0_off2 k) S1x64x512.size (k0_off2_inb k), p⟩ : View.Piece (Elt F) S32x64x512 .f32)])
    (congrArg₂ k0_pay4 (by congr 1 <;> first | rfl | exact View.readAt_full _ _ _) (View.readAt_full _ _ _))

/-- The value carried into trip `k`. -/
theorem st_carried (init : Vec F S64x512 .bf16) (k : ℕ) (hk : k ≤ k0_t1_loop.trips) :
    (st_k0_t1 (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 init k).1 = carry w xp init k := by
  induction k with
  | zero => rfl
  | succ k ih =>
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 init ⟨k, hk⟩
    have e' := carry_succ w xp init ⟨k, hk⟩
    dsimp only at e e'
    rw [e, e', ← ih (Nat.le_of_succ_le hk)]
    exact trip_yield (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 w xp h2 h3 h4 h5 h6 h7 h8 h11 ⟨k, hk⟩ _

/-- After `k` trips the first `k` slabs of the collecting buffer are written. -/
theorem st_rows (init : Vec F S64x512 .bf16) (f : BufTy.Contents (Elt F) arg12.view.ty) (k : ℕ) (hk : k ≤ k0_t1_loop.trips)
    (y : S32x64x512.Idx) (hy : (y 0).val < k) :
    arg12.view.read (Elt F) (arg12.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 init k).2) y = rows w xp init y := by
  induction k with
  | zero => exact absurd hy (Nat.not_lt_zero _)
  | succ k ih =>
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 init ⟨k, hk⟩
    dsimp only at e
    rw [e, trip_stores (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 w xp h2 h3 h4 h5 h6 h7 h8 h11 ⟨k, hk⟩ _,
      st_carried (F := F) 𝒱 c bd i arg1 harg1 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg11 w xp h2 h3 h4 h5 h6 h7 h8 h11 init k (Nat.le_of_succ_le hk)]
    rw [List.singleton_append]; dsimp only
    by_cases hlt : (y 0).val < k
    · rw [View.read_writes_cons_unit_of_not_mem arg12.view f _ _ _ y (k0_off2_eq ⟨k, hk⟩) 0 (Or.inl hlt)]
      exact ih (Nat.le_of_succ_le hk) hlt
    · have hk' : (y 0).val = k := by omega
      refine (View.read_writes_cons_unit_of_mem (off := k0_off2 ⟨k, hk⟩) (size := S1x64x512.size) arg12.view f (k0_off2_inb ⟨k, hk⟩) _ _ y
        (inSlab y) (k0_off2_eq ⟨k, hk⟩) (inSlab_val y k hk')).trans ?_
      unfold rows rowOut
      subst hk'
      rfl

end Loop

end Cert.KernelIdeal.Hand
-- ==== Proof.KernelIdealBody.lean ====
/- One grid point: what the body computes from the blocks it finds and from the hidden state it is left. -/
module

public import proofs.«01_k».proof.Proof.KernelIdealLoop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The hidden state a grid point starts from: zeros at the first point, what the point before left at every other. -/
def start (i : grid0.Coords) (d : Vec F S64x512 .bf16) : Vec F S64x512 .bf16 :=
  if (i 0).val = 0 then k0_pay1 else d

/-- What a grid point leaves in the output block. -/
def blockOut (w : Weights F) (x : Vec F S64x32x256 .f32) (h0 : Vec F S64x512 .bf16) : Vec F S64x32x512 .f32 :=
  k0_pay7 (rows w (k0_pay2 x) h0)

/-- The hidden state a grid point leaves for the next. -/
def stateOut (w : Weights F) (x : Vec F S64x32x256 .f32) (h0 : Vec F S64x512 .bf16) : Vec F S64x512 .bf16 :=
  k0_pay6 (carry w (k0_pay2 x) h0 k0_t1_loop.trips)

/-- The printed test for the first grid point. -/
theorem first_iff (n : Fin 16) :
    Scalar.cmpi .ne (Scalar.extui (Scalar.cmpi .eq (BitVec.ofNat 32 n.val) 0#32) : BitVec 32) 0#32 = 1#1 ↔ n.val = 0 := by
  revert n; decide +kernel

set_option maxHeartbeats 4000000 in
/-- The body at one grid point: it leaves its input blocks as they were, the output block at `blockOut` and the state
    buffer at `stateOut`, both from the starting state; the two other scratch buffers hold whatever it leaves there. -/
theorem body_run (c : Dev nD) (i : grid0.Coords) (arg1 : Memref sig .tc .vmem S64x32x256 .f32) (harg1 : arg1.IsWhole) (arg2 : Memref sig .tc .vmem S256x1024 .bf16) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x1536 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1536 .f32) (harg8 : arg8.IsWhole) (arg9 : Memref sig .tc .vmem S64x32x512 .f32) (harg9 : arg9.IsWhole) (arg10 : Memref sig .tc .vmem S64x512 .bf16) (harg10 : arg10.IsWhole) (arg11 : Memref sig .tc .vmem S32x64x256 .bf16) (harg11 : arg11.IsWhole) (arg12 : Memref sig .tc .vmem S32x64x512 .f32) (harg12 : arg12.IsWhole)
    (w : Weights F) (x : Vec F S64x32x256 .f32) (d : Vec F S64x512 .bf16) (K : PUnit → sProp 𝕄) :
   iprop(owns (c : Thread nD τ) arg1 fullShare x ∗ owns (c : Thread nD τ) arg2 fullShare w.wx ∗ owns (c : Thread nD τ) arg3 fullShare w.wh
     ∗ owns (c : Thread nD τ) arg4 fullShare w.w2 ∗ owns (c : Thread nD τ) arg5 fullShare w.wd ∗ owns (c : Thread nD τ) arg6 fullShare w.b1
     ∗ owns (c : Thread nD τ) arg7 fullShare w.b2 ∗ owns (c : Thread nD τ) arg8 fullShare w.bd ∗ (∃ e, owns (c : Thread nD τ) arg9 fullShare e)
     ∗ owns (c : Thread nD τ) arg10 fullShare d ∗ (∃ e, owns (c : Thread nD τ) arg11 fullShare e) ∗ (∃ e, owns (c : Thread nD τ) arg12 fullShare e)
     ∗ (iprop(owns (c : Thread nD τ) arg1 fullShare x ∗ owns (c : Thread nD τ) arg2 fullShare w.wx ∗ owns (c : Thread nD τ) arg3 fullShare w.wh
         ∗ owns (c : Thread nD τ) arg4 fullShare w.w2 ∗ owns (c : Thread nD τ) arg5 fullShare w.wd ∗ owns (c : Thread nD τ) arg6 fullShare w.b1
         ∗ owns (c : Thread nD τ) arg7 fullShare w.b2 ∗ owns (c : Thread nD τ) arg8 fullShare w.bd
         ∗ owns (c : Thread nD τ) arg9 fullShare (blockOut w x (start i d))
         ∗ owns (c : Thread nD τ) arg10 fullShare (stateOut w x (start i d))
         ∗ (∃ e, owns (c : Thread nD τ) arg11 fullShare e) ∗ (∃ e, owns (c : Thread nD τ) arg12 fullShare e)) -∗ K ⟨⟩)) ⊢
    wp frame (wpE (defs₀ (F := F)) Variants.none c none) Set.univ (cc0_cfc_scan i arg1 harg1 arg2 harg2 arg3 harg3 arg4 harg4 arg5 harg5 arg6 harg6 arg7 harg7 arg8 harg8 arg9 harg9 arg10 harg10 arg11 harg11 arg12 harg12) K := by
  simp only [cc0_cfc_scan_eq_skeleton]; unfold cc0_cfc_scan_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, HK⟩
  sl_exec
  sl_step
  have h11 : arg11.view.read (Elt F) (arg11.view.writes (Elt F) arg11.view.junk (body_run.sl.H11_1 c arg1 f1)) = k0_pay2 x := by
    unfold body_run.sl.H11_1
    refine (View.read_writes_full _ _ _ _ _).trans (congrArg k0_pay2 ?_)
    exact (View.readAt_full _ _ _).trans hf1
  have h9 : body_run.sl.v9 c i arg10 f10 = start i d := by
    have hv : body_run.sl.v2 i = 1#1 ↔ (i 0).val = 0 := first_iff (i 0)
    unfold body_run.sl.v9 start
    refine (View.readAt_full _ _ _).trans ?_
    by_cases h0 : (i 0).val = 0
    · rw [if_pos h0, dif_pos (hv.mpr h0)]
      exact View.read_writes_full _ _ _ _ _
    · rw [if_neg h0, dif_neg fun h => h0 (hv.mp h)]
      exact hf10
  iapply HK
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]; · iexists _; isplitr; swap; · iexact H6
                  ipureintro; exact hf6
  isplitl [H7]; · iexists _; isplitr; swap; · iexact H7
                  ipureintro; exact hf7
  isplitl [H8]; · iexists _; isplitr; swap; · iexact H8
                  ipureintro; exact hf8
  isplitl [H9]
  · iexists _; isplitr; swap; · iexact H9
    ipureintro
    refine (View.read_writes_full _ _ _ _ _).trans (congrArg k0_pay7 ?_)
    unfold body_run.sl.v15
    refine (View.readAt_full _ _ _).trans ?_
    rw [h9]
    exact funext fun y => st_rows (F := F) Variants.none c none i arg1 harg1 arg2 harg2 arg3 harg3 arg4 harg4 arg5 harg5 arg6 harg6 arg7 harg7 arg8 harg8 arg9 harg9 arg10 harg10 arg11 harg11 arg12 harg12 f2 f3 f4 f5 f6 f7 f8 _ w (k0_pay2 x)
      hf2 hf3 hf4 hf5 hf6 hf7 hf8 h11 (start i d) f12 k0_t1_loop.trips (Nat.le_refl _) y (Nat.lt_of_lt_of_eq (y 0).isLt trips_eq.symm)
  isplitl [H10]
  · iexists _; isplitr; swap; · iexact H10
    ipureintro
    refine (View.read_writes_full _ _ _ _ _).trans (congrArg k0_pay6 ?_)
    rw [h9]
    exact st_carried (F := F) Variants.none c none i arg1 harg1 arg2 harg2 arg3 harg3 arg4 harg4 arg5 harg5 arg6 harg6 arg7 harg7 arg8 harg8 arg9 harg9 arg10 harg10 arg11 harg11 arg12 harg12 f2 f3 f4 f5 f6 f7 f8 _ w (k0_pay2 x)
      hf2 hf3 hf4 hf5 hf6 hf7 hf8 h11 (start i d) k0_t1_loop.trips (Nat.le_refl _)
  isplitl [H11]
  · iexists _, _; isplitr; swap; · iexact H11
    ipureintro; rfl
  iexists _, _; isplitr; swap; · iexact H12
  ipureintro; rfl

end Cert.KernelIdeal.Hand
-- ==== Proof.KernelIdealRun.lean ====
/- The sixteen grid points one after another: what the state buffer holds before each, what each leaves in its output
   block, and the run of the whole program. -/
module

public import proofs.«01_k».proof.Proof.KernelIdealBody
public import proofs.«01_k».proof.Proof.Gen.KernelIdeal.Points
public import proofs.«01_k».proof.Proof.Gen.KernelIdeal.Launch
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights as the windows hold them at point `t`. -/
def wts (c : Dev nD) (t : Fin cfg0.N) : Weights F where
  wx := iblk m c 1 t
  wh := iblk m c 2 t
  w2 := iblk m c 3 t
  wd := iblk m c 4 t
  b1 := iblk m c 5 t
  b2 := iblk m c 6 t
  bd := iblk m c 7 t

/-- The input block at point `t`. -/
def xblk (c : Dev nD) (t : Fin cfg0.N) : Vec F S64x32x256 .f32 := iblk m c 0 t

/-- What the state buffer holds before point `n` (before point 0 it may hold anything: that point overwrites it). -/
def hAt (c : Dev nD) : ℕ → Vec F S64x512 .bf16
  | 0 => k0_pay1
  | n + 1 => if h : n < cfg0.N then stateOut (wts m c ⟨n, h⟩) (xblk m c ⟨n, h⟩) (start (grid0.coords ⟨n, h⟩) (hAt c n)) else hAt c n

theorem hAt_succ (c : Dev nD) (t : Fin cfg0.N) :
    hAt m c (t.val + 1) = stateOut (wts m c t) (xblk m c t) (start (grid0.coords t) (hAt m c t.val)) := by
  rw [hAt, dif_pos t.isLt]

/-- The output block point `t` leaves. -/
def outAt (c : Dev nD) (t : Fin cfg0.N) : Vec F S64x32x512 .f32 :=
  blockOut (wts m c t) (xblk m c t) (start (grid0.coords t) (hAt m c t.val))

theorem coords_val : ∀ t : Fin grid0.N, (grid0.coords t 0).val = t.val := by decide +kernel

/-- Whatever the state buffer holds before the first point, that point starts from zeros. -/
theorem start_eq (t : Fin cfg0.N) (d e : Vec F S64x512 .bf16) (h : t.val ≠ 0 → d = e) :
    start (grid0.coords t) d = start (grid0.coords t) e := by
  unfold start
  by_cases h0 : t.val = 0
  · rw [if_pos ((coords_val t).trans h0), if_pos ((coords_val t).trans h0)]
  · rw [h h0]

/-- What the body finds in the scratch buffers before point `n`: the state, and anything in the other two. -/
def scr (c : Dev nD) (n : ℕ) (_ : n ≤ cfg0.N) : sProp 𝕄 :=
  iprop((∃ d : Vec F S64x512 .bf16, ⌜n ≠ 0 → d = hAt m c n⌝ ∗ owns (c : Thread nD τ) (Memref.whole cc0_scratch0) fullShare d)
    ∗ (∃ e, owns (c : Thread nD τ) (Memref.whole cc0_scratch1) fullShare e)
    ∗ (∃ e, owns (c : Thread nD τ) (Memref.whole cc0_scratch2) fullShare e) ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := scr m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]
theorem Phi_start (c : Dev nD) (t : Fin cfg0.N) : (dats m 0 c).Φ t.castSucc = scr m c t.val (Nat.le_of_lt t.isLt) := by
  dsimp only [dats]; exact Pipeline.Dat.Φ_castSucc (scr m c) t
theorem Phi_end (c : Dev nD) (t : Fin cfg0.N) : (dats m 0 c).Φ t.succ = scr m c (t.val + 1) t.isLt := by
  dsimp only [dats]; rfl
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-- What the body obligation at point `t` starts from, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- and what it ends in. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_start, Phi_end, after_0, after_1, after_2, after_3, after_4, after_5, after_6, after_7, after_8]
  simp only [before_0, before_1, before_2, before_3, before_4, before_5, before_6, before_7]
  unfold Dat.owesAt Pipeline.owesWithin scr
  rw [show (dats m 0 c).owed t.castSucc = 0 from rfl, show (dats m 0 c).owed t.succ = 0 from rfl]
  iintro ⟨⟨⟨%d, %hd, HS0⟩, HS1, HS2, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hst := start_eq t d (hAt m c t.val) hd
  iapply (body_run c _ _ _ _ _ _ _ _ _ _ _ _ _ _ _ _ _ _ _ _ _ _ _ _ _ (wts m c t) (xblk m c t) d _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  rw [hst]
  iintro ⟨H0, H1, H2, H3, H4, H5, H6, H7, H8, HS0, HS1, HS2⟩
  isplitl [HS0 HS1 HS2 Hg]
  · isplitl [HS0]
    · iexists _; isplitr; swap; · iexact HS0
      ipureintro; exact fun _ => (hAt_succ m c t).symm
    isplitl [HS1]; · iexact HS1
    isplitl [HS2]; · iexact HS2
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch buffers hold anything. -/
theorem scr_in (c : Dev nD) : Pipeline.ΦA (Val := Elt F) (U := UR sig nD τ) spec0 c ⊢ (dats m 0 c).Φ 0 := by
  rw [show (dats m 0 c).Φ 0 = scr m c 0 (Nat.zero_le _) from rfl]
  unfold Pipeline.ΦA scr
  rw [scopedRest0_eq]
  simp only [owns_whole]
  iintro ⟨⟨⟨%f, H0⟩, H1, H2⟩, Hg⟩
  isplitl [H0]
  · iexists f; isplitr; · ipureintro; exact fun h => absurd rfl h
    iexact H0
  isplitl [H1]; · iexact H1
  isplitl [H2]; · iexact H2
  iexact Hg

/-- After the last point what they hold is forgotten. -/
theorem scr_out (c : Dev nD) : (dats m 0 c).Φ (Fin.last cfg0.N) ⊢ Pipeline.ΦA (Val := Elt F) (U := UR sig nD τ) spec0 c := by
  rw [show (dats m 0 c).Φ (Fin.last cfg0.N) = scr m c cfg0.N (Nat.le_refl _) from rfl]
  unfold Pipeline.ΦA scr
  rw [scopedRest0_eq]
  simp only [owns_whole]
  iintro ⟨⟨%d, -, H0⟩, H1, H2, Hg⟩
  isplitl [H0 H1 H2]
  · isplitl [H0]; · iexists d; iexact H0
    isplitl [H1]; · iexact H1
    iexact H2
  iexact Hg

set_option backward.isDefEq.respectTransparency.types false in
/-- THE RUN: it terminates with every window's array at the proof data's contents and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scr_in m) (hout := scr_out m)

/-- THE FRAME, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  exact θ_run_and (frame_of m ρ (dats m) (A_eq m) ((θ_run defs _ _).mono (fun _ h => h.1) (run_main m ρ)))
    ((θ_run defs _ _).mono (fun _ h => h.2) (run_main m ρ))

end Cert.KernelIdeal.Hand
-- ==== Proof.ReferenceIdealScan.lean ====
/- The reference's loop as a scan: what one trip makes of the carried values, and the state before each trip. -/
module

public import proofs.«01_k».proof.Proof.Gen.ReferenceIdeal.Run
public import proofs.«01_k».proof.Proof.Gen.ReferenceIdeal.Step

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- What a valuation shows before trip `j` when the scan's state is `s`: the hidden state, the rows written so far, the
    transposed input, the twelve weights and biases, the trip's number, and the constant one. -/
structure Shows (V0 : Valuation τ sig (Elt F)) (s : State F) (j : ℕ) : Prop where
  hidden : V0 (Proc.devRef .tc main_v3_15) = s.main_v3_15
  written : V0 (Proc.devRef .tc main_v3_16) = s.main_v3_16
  input : V0 (Proc.devRef .tc main_v3_0) = s.main_v3_0
  w1 : V0 (Proc.devRef .tc main_v3_1) = s.main_v3_1
  b1 : V0 (Proc.devRef .tc main_v3_2) = s.main_v3_2
  w2 : V0 (Proc.devRef .tc main_v3_3) = s.main_v3_3
  b2 : V0 (Proc.devRef .tc main_v3_4) = s.main_v3_4
  wf : V0 (Proc.devRef .tc main_v3_5) = s.main_v3_5
  bf : V0 (Proc.devRef .tc main_v3_6) = s.main_v3_6
  wg : V0 (Proc.devRef .tc main_v3_7) = s.main_v3_7
  bg : V0 (Proc.devRef .tc main_v3_8) = s.main_v3_8
  wa : V0 (Proc.devRef .tc main_v3_9) = s.main_v3_9
  ba : V0 (Proc.devRef .tc main_v3_10) = s.main_v3_10
  wb : V0 (Proc.devRef .tc main_v3_11) = s.main_v3_11
  bb : V0 (Proc.devRef .tc main_v3_12) = s.main_v3_12
  number : V0 (Proc.devRef .tc main_v3_14) = constantI S_ 32 (BitVec.ofNat 32 j)
  one : V0 (Proc.devRef .tc main_v3_13) = K_main_cst_0 (F := F)

section

variable {V0 : Valuation τ sig (Elt F)} {s : State F} {j : ℕ}

/-- The backbone's second layer. -/
theorem backbone_eq (h : Shows V0 s j) : res_main_while0b_v26 V0 = b28 j s := by
  unfold res_main_while0b_v26
  rw [h.hidden, h.input, h.w1, h.b1, h.w2, h.b2, h.number]
  rfl

/-- The time gate. -/
theorem gate_eq (h : Shows V0 s j) : res_main_while0b_v57 V0 = b61 j s := by
  unfold res_main_while0b_v57
  rw [backbone_eq h, h.wa, h.ba, h.wb, h.bb, h.one]
  rfl

/-- The new hidden state. -/
theorem hidden_eq (h : Shows V0 s j) : res_main_while0b_v62 V0 = b67 j s := by
  unfold res_main_while0b_v62
  rw [backbone_eq h, gate_eq h, h.wf, h.bf, h.wg, h.bg]
  rfl

/-- The rows after the trip: the new hidden state at row `j`. -/
theorem written_eq (h : Shows V0 s j) : Value.step_main_v3_16 V0 = b71 j s := by
  unfold Value.step_main_v3_16
  show Host.dynamicUpdateSlice _ (broadcastInDim S1x64x512 ![1, 2] bcast_S64x512_S1x64x512_1_2 (res_main_while0b_v62 V0)) _ _ = _
  rw [hidden_eq h, h.written, h.number]
  rfl

/-- The number after the trip. -/
theorem number_eq (h : Shows V0 s j) : Value.step_main_v3_14 V0 = constantI S_ 32 (BitVec.ofNat 32 (j + 1)) := by
  unfold Value.step_main_v3_14
  rw [h.number]
  funext i
  exact (BitVec.ofNat_add j 1).symm

/-- One trip takes a valuation that shows a state to one that shows the next state. -/
theorem shows_step (h : Shows V0 s j) : Shows (STEP V0) (step j s) (j + 1) where
  hidden := (STEP_main_v3_15 V0).trans (hidden_eq h)
  written := (STEP_main_v3_16 V0).trans (written_eq h)
  number := (STEP_main_v3_14 V0).trans (number_eq h)
  one := (STEP_main_v3_13 V0).trans h.one
  input := (STEP_main_v3_0 V0).trans h.input
  w1 := (STEP_main_v3_1 V0).trans h.w1
  b1 := (STEP_main_v3_2 V0).trans h.b1
  w2 := (STEP_main_v3_3 V0).trans h.w2
  b2 := (STEP_main_v3_4 V0).trans h.b2
  wf := (STEP_main_v3_5 V0).trans h.wf
  bf := (STEP_main_v3_6 V0).trans h.bf
  wg := (STEP_main_v3_7 V0).trans h.wg
  bg := (STEP_main_v3_8 V0).trans h.bg
  wa := (STEP_main_v3_9 V0).trans h.wa
  ba := (STEP_main_v3_10 V0).trans h.ba
  wb := (STEP_main_v3_11 V0).trans h.wb
  bb := (STEP_main_v3_12 V0).trans h.bb

/-- The result of a valuation that shows a state: its rows with time and batch swapped. -/
theorem result_eq (h : Shows V0 s j) : out_main_v4 V0 = R_main_v4 s := by
  unfold out_main_v4
  rw [h.written]
  rfl

end

variable (m : (ℓ : Loc nD τ sig) → Buf (Elt F) ℓ) (c : Dev nD)

/-- The state before each trip, of the arguments in memory. -/
def states : ℕ → State F
  | 0 => init (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg12))
      (m ((c.tc : Thread nD τ).loc main_arg0))
  | n + 1 => step n (states n)

set_option maxRecDepth 65536 in
set_option maxHeartbeats 600000 in
/-- The valuation the loop is entered with shows the first state. -/
theorem shows_first : Shows (entryContents preI m c) (states m c 0) 0 := by
  constructor <;> (simp only [entryContents, afterL_cons, afterL_nil]; after_reads_simp) <;> rfl

/-- The valuation after `k` trips shows state `k`. -/
theorem shows_at : ∀ k, Shows (STEP^[k] (entryContents preI m c)) (states m c k) k
  | 0 => shows_first m c
  | k + 1 => by
    rw [Function.iterate_succ_apply']
    exact shows_step (shows_at k)

end Cert.ReferenceIdeal.Hand

end
-- ==== Proof.ReferenceIdealRun.lean ====
/- The reference's run: what it leaves in the result and in every other buffer it was given. -/
module

public import proofs.«01_k».proof.Proof.ReferenceIdealScan
public import Idealize.ShloMosaic.Lib.Claim
public import Idealize.ShloMosaic.Lib.Quiescent

@[expose] public section

set_option maxRecDepth 16384

noncomputable section

namespace Cert.ReferenceIdeal.Hand

open Cert.ReferenceIdeal Cert.ReferenceIdeal.Step
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The result is the rows of the state after 512 trips with time and batch swapped; every argument is unchanged. -/
theorem run : θ_run (defs (F := F)) (onTc (τ := τ) (main (F := F))) ⟨m, fun _ => 0, ρ⟩ fun r => ∀ c : Dev nD,
    r.2.mem ((c.tc : Thread nD τ).loc main_v4) = R_main_v4 (states m c 512)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  (θ_run defs _ _).mono (fun _ h c => ⟨(h c).1.trans (result_eq (shows_at m c 512)), (h c).2⟩) (Value.run m ρ)

/-- The reference's frame: every argument is unchanged, and every counter ends at zero since it has no semaphore. -/
theorem frame : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
    ∧ r.2.sem = fun _ => 0 := θ_run_and ((θ_run (defs (F := F)) _ _).mono (fun _ h c => (h c).2) (run m ρ))
  ((θ_run (defs (F := F)) _ _).mono (fun r _ => sem_eq_zero_of_no_sems (sig := sig) rfl r.2) (run m ρ))

end Cert.ReferenceIdeal.Hand

end
-- ==== Proof.Cell.lean ====
/- The mathematics of one step of the cell over the extended reals, for one row of the batch: as the reference writes
   it, as the kernel writes it with its weights laid out side by side, and that the two agree. -/
module

public import Idealize.ShloMosaic.PureOps.Ideal
public import Idealize.ShloMosaic.Lib.IdealHost

@[expose] public section

noncomputable section

namespace Cert.Cfc

open Idealize.ShloMosaic

/-- The scaled hyperbolic tangent `1.7159 · tanh (0.666 · u)` of both backbone layers. -/
def lec (u : EReal) : EReal := Ideal.ofBits .f32 0x3FDBA29C#32 * Ideal.tanh (Ideal.ofBits .f32 0x3F2A7EFA#32 * u)

/-- The weights and biases as the reference is given them, each weight matrix by output and input. -/
structure Params where
  w1 : Fin 1024 → Fin 768 → EReal
  b1 : Fin 1024 → EReal
  w2 : Fin 1024 → Fin 1024 → EReal
  b2 : Fin 1024 → EReal
  wf : Fin 512 → Fin 1024 → EReal
  bf : Fin 512 → EReal
  wg : Fin 512 → Fin 1024 → EReal
  bg : Fin 512 → EReal
  wa : Fin 512 → Fin 1024 → EReal
  ba : Fin 512 → EReal
  wb : Fin 512 → Fin 1024 → EReal
  bb : Fin 512 → EReal

/-- Where an input coordinate lies among the first layer's 768 inputs. -/
abbrev atInput (i : Fin 256) : Fin 768 := ⟨i.val, by omega⟩

/-- Where a hidden coordinate lies among the first layer's 768 inputs. -/
abbrev atHidden (l : Fin 512) : Fin 768 := ⟨256 + l.val, by omega⟩

/-- Where an output of the first, second and third head lies among the 1536 outputs side by side. -/
abbrev atFirst (n : Fin 512) : Fin 1536 := ⟨n.val, by omega⟩
abbrev atSecond (n : Fin 512) : Fin 1536 := ⟨512 + n.val, by omega⟩
abbrev atThird (n : Fin 512) : Fin 1536 := ⟨1024 + n.val, by omega⟩

section Reference

variable (p : Params) (x : Fin 256 → EReal) (h : Fin 512 → EReal)

/-- The backbone's first layer. -/
def layer1 (k : Fin 1024) : EReal :=
  lec (∑ i, x i * p.w1 k (atInput i) + ∑ l, h l * p.w1 k (atHidden l) + p.b1 k)

/-- The backbone's second layer. -/
def layer2 (k : Fin 1024) : EReal := lec (∑ k', layer1 p x h k' * p.w2 k k' + p.b2 k)

/-- A linear head with weights `w` and bias `b`, of features `z`. -/
def head (w : Fin 512 → Fin 1024 → EReal) (b : Fin 512 → EReal) (z : Fin 1024 → EReal) (n : Fin 512) : EReal :=
  ∑ k, z k * w n k + b n

/-- The time gate. -/
def gate (n : Fin 512) : EReal :=
  Ideal.logistic (head p.wa p.ba (layer2 p x h) n + head p.wb p.bb (layer2 p x h) n)

/-- The new hidden state. -/
def cell (n : Fin 512) : EReal :=
  Ideal.tanh (head p.wf p.bf (layer2 p x h) n) * (1 - gate p x h n)
    + gate p x h n * Ideal.tanh (head p.wg p.bg (layer2 p x h) n)

end Reference

/-- The weights and biases as the kernel lays them out, each weight matrix by input and output. -/
structure Packed where
  wx : Fin 256 → Fin 1024 → EReal
  wh : Fin 512 → Fin 1024 → EReal
  w2 : Fin 1024 → Fin 1024 → EReal
  wd : Fin 1024 → Fin 1536 → EReal
  b1 : Fin 1024 → EReal
  b2 : Fin 1024 → EReal
  bd : Fin 1536 → EReal

section Kernel

variable (q : Packed) (x : Fin 256 → EReal) (h : Fin 512 → EReal)

/-- The kernel's first layer: the product with the input, the bias, the product with the hidden state. -/
def packed1 (k : Fin 1024) : EReal := lec (∑ i, x i * q.wx i k + q.b1 k + ∑ l, h l * q.wh l k)

/-- The kernel's second layer. -/
def packed2 (k : Fin 1024) : EReal := lec (∑ k', packed1 q x h k' * q.w2 k' k + q.b2 k)

/-- The kernel's three heads before their bias. -/
def products (n : Fin 1536) : EReal := ∑ k, packed2 q x h k * q.wd k n

/-- The kernel's three heads. -/
def outputs (n : Fin 1536) : EReal := products q x h n + q.bd n

/-- The kernel's new hidden state, of the three heads. -/
def blend (g : Fin 1536 → EReal) (n : Fin 512) : EReal :=
  Ideal.tanh (g (atFirst n)) + Ideal.logistic (g (atThird n)) * (Ideal.tanh (g (atSecond n)) - Ideal.tanh (g (atFirst n)))

/-- The kernel's new hidden state. -/
def packedCell (n : Fin 512) : EReal := blend (outputs q x h) n

end Kernel

/-- How the kernel's layout holds the reference's weights: transposed, the first layer split, the heads side by side, the
    two time heads added into one. -/
structure Packs (q : Packed) (p : Params) : Prop where
  wx : ∀ i k, q.wx i k = p.w1 k (atInput i)
  wh : ∀ l k, q.wh l k = p.w1 k (atHidden l)
  w2 : ∀ k' k, q.w2 k' k = p.w2 k k'
  b1 : ∀ k, q.b1 k = p.b1 k
  b2 : ∀ k, q.b2 k = p.b2 k
  wf : ∀ k n, q.wd k (atFirst n) = p.wf n k
  wg : ∀ k n, q.wd k (atSecond n) = p.wg n k
  wt : ∀ k n, q.wd k (atThird n) = p.wa n k + p.wb n k
  bf : ∀ n, q.bd (atFirst n) = p.bf n
  bg : ∀ n, q.bd (atSecond n) = p.bg n
  bt : ∀ n, q.bd (atThird n) = p.ba n + p.bb n

/-- No entry of the two time heads' weights holds infinities of opposite sign. -/
def Addable (p : Params) : Prop :=
  ∀ n k, (⊥ < p.wa n k ∧ ⊥ < p.wb n k) ∨ (p.wa n k < ⊤ ∧ p.wb n k < ⊤)

section Real

/-- The hyperbolic tangent of an extended real is real. -/
theorem tanh_real (u : EReal) : ∃ r : ℝ, Ideal.tanh u = r := by
  induction u using EReal.rec with
  | bot => exact ⟨-1, by simp⟩
  | top => exact ⟨1, by simp⟩
  | coe r => exact ⟨Real.tanh r, rfl⟩

/-- The logistic function of an extended real is real. -/
theorem logistic_real (u : EReal) : ∃ r : ℝ, Ideal.logistic u = r := by
  induction u using EReal.rec with
  | bot => exact ⟨0, by simp⟩
  | top => exact ⟨1, by simp⟩
  | coe r => exact ⟨_, Ideal.logistic_coe r⟩

/-- The scale `1.7159` is real. -/
theorem scale_real : ∃ r : ℝ, Ideal.ofBits .f32 0x3FDBA29C#32 = r := by
  unfold Ideal.ofBits Ideal.ieee
  dsimp only
  rw [if_neg (by decide), if_neg (by decide)]
  exact ⟨_, rfl⟩

/-- The scaled hyperbolic tangent of an extended real is real. -/
theorem lec_real (u : EReal) : ∃ r : ℝ, lec u = r := by
  obtain ⟨a, ha⟩ := scale_real
  obtain ⟨b, hb⟩ := tanh_real (Ideal.ofBits .f32 0x3F2A7EFA#32 * u)
  exact ⟨a * b, by rw [lec, ha, hb, EReal.coe_mul]⟩

/-- A real factor distributes over a sum of two extended reals that are not infinities of opposite sign. -/
theorem real_mul_add (r : ℝ) {a b : EReal} (hab : (⊥ < a ∧ ⊥ < b) ∨ (a < ⊤ ∧ b < ⊤)) :
    (r : EReal) * (a + b) = r * a + r * b := by
  rcases le_or_gt 0 r with hr | hr
  · exact EReal.left_distrib_of_nonneg_of_ne_top (EReal.coe_nonneg.mpr hr) (EReal.coe_ne_top r) a b
  · have flip : ∀ c : EReal, (r : EReal) * c = ((-r : ℝ) : EReal) * -c := fun c => by
      rw [EReal.coe_neg, neg_mul, mul_neg, neg_neg]
    have hsum : -(a + b) = -a + -b := by
      rw [← sub_eq_add_neg]
      exact EReal.neg_add (hab.elim (fun h => .inl h.1.ne') fun h => .inr h.2.ne)
        (hab.elim (fun h => .inr h.2.ne') fun h => .inl h.1.ne)
    rw [flip, flip a, flip b, hsum]
    exact EReal.left_distrib_of_nonneg_of_ne_top (EReal.coe_nonneg.mpr (by linarith)) (EReal.coe_ne_top _) _ _

/-- Mixing two reals by a real gate, in the kernel's form and in the reference's. -/
theorem mix_eq {f g t : EReal} (hf : ∃ r : ℝ, f = r) (hg : ∃ r : ℝ, g = r) (ht : ∃ r : ℝ, t = r) :
    f + t * (g - f) = f * (1 - t) + t * g := by
  obtain ⟨f, rfl⟩ := hf
  obtain ⟨g, rfl⟩ := hg
  obtain ⟨t, rfl⟩ := ht
  norm_cast
  ring

end Real

section Equation

variable {q : Packed} {p : Params} (hq : Packs q p) (x : Fin 256 → EReal) (h : Fin 512 → EReal)

include hq

/-- The first layers agree: a sum of extended reals does not depend on the order of its terms. -/
theorem packed1_eq : packed1 q x h = layer1 p x h := by
  funext k
  unfold packed1 layer1
  simp only [hq.wx, hq.wh, hq.b1]
  rw [add_right_comm]

/-- The second layers agree. -/
theorem packed2_eq : packed2 q x h = layer2 p x h := by
  funext k
  unfold packed2 layer2
  simp only [hq.w2, hq.b2, packed1_eq hq]

/-- The first head. -/
theorem outputs_first (n : Fin 512) : outputs q x h (atFirst n) = head p.wf p.bf (layer2 p x h) n := by
  simp only [outputs, products, head, hq.wf, hq.bf, packed2_eq hq]

/-- The second head. -/
theorem outputs_second (n : Fin 512) : outputs q x h (atSecond n) = head p.wg p.bg (layer2 p x h) n := by
  simp only [outputs, products, head, hq.wg, hq.bg, packed2_eq hq]

/-- The time head: the features are real, so each product with a sum of weights is a sum of products. -/
theorem outputs_third (hp : Addable p) (n : Fin 512) :
    outputs q x h (atThird n) = head p.wa p.ba (layer2 p x h) n + head p.wb p.bb (layer2 p x h) n := by
  have hk : ∀ k, layer2 p x h k * (p.wa n k + p.wb n k) = layer2 p x h k * p.wa n k + layer2 p x h k * p.wb n k := fun k => by
    obtain ⟨r, hr⟩ := lec_real (∑ k', layer1 p x h k' * p.w2 k k' + p.b2 k)
    rw [layer2, hr]
    exact real_mul_add r (hp n k)
  simp only [outputs, products, head, hq.wt, hq.bt, packed2_eq hq, hk]
  rw [Finset.sum_add_distrib, add_add_add_comm]

/-- The kernel's step is the reference's. -/
theorem packedCell_eq (hp : Addable p) : packedCell q x h = cell p x h := by
  funext n
  unfold packedCell blend cell gate
  rw [outputs_first hq, outputs_second hq, outputs_third hq x h hp]
  exact mix_eq (tanh_real _) (tanh_real _) (logistic_real _)

end Equation

/-- The hidden state of one row of the batch before each step, from the row's inputs. -/
def hid (p : Params) (x : ℕ → Fin 256 → EReal) : ℕ → Fin 512 → EReal
  | 0 => fun _ => 0
  | t + 1 => cell p (x t) (hid p x t)

end Cert.Cfc

end
-- ==== Proof.KernelIdealStep.lean ====
/- What one grid point computes at the extended reals, row by row of the batch: thirty-two steps of the cell. -/
module

public import proofs.«01_k».proof.Proof.KernelIdealBody
public import proofs.«01_k».proof.Proof.Cell
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Cert.Cfc
open Idealize.ShloMosaic Idealize.ShloMosaic.TcCoe Idealize.ShloMosaic.Tactic Idealize.ShloMosaic.Pointwise

/-- The weights the windows hold, as functions of input and output. -/
def pack (w : Weights Ideal) : Packed where
  wx i k := w.wx (ix2 i k)
  wh l k := w.wh (ix2 l k)
  w2 k' k := w.w2 (ix2 k' k)
  wd k n := w.wd (ix2 k n)
  b1 k := w.b1 (ix2 0 k)
  b2 k := w.b2 (ix2 0 k)
  bd n := w.bd (ix2 0 n)

/-- Row `b` of a hidden state. -/
def hrow (h : Vec Ideal S64x512 .bf16) (b : Fin 64) : Fin 512 → EReal := fun l => h (ix2 b l)

/-- The products of the three heads, at an index. -/
theorem heads_at (w : Weights Ideal) (h : Vec Ideal S64x512 .bf16) (r : Vec Ideal S1x64x256 .bf16) (b : Fin 64) (n : Fin 1536) :
    heads w h r (ix2 b n) = products (pack w) (fun i => r (ix3 0 b i)) (hrow h b) n := by
  unfold heads k0_pay8
  pointwise
  rfl

/-- The new hidden state of the three products, at an index. -/
theorem new_at (g : FVec Ideal S64x1536 .f32) (bd : Vec Ideal S1x1536 .f32) (b : Fin 64) (n : Fin 512) :
    k0_pay3 g bd (ix2 b n) = blend (fun i => g (ix2 b i) + bd (ix2 0 i)) n := by
  unfold k0_pay3
  pointwise
  rfl

/-- One step's new hidden state, at an index. -/
theorem step_at (w : Weights Ideal) (h : Vec Ideal S64x512 .bf16) (r : Vec Ideal S1x64x256 .bf16) (b : Fin 64) (n : Fin 512) :
    k0_pay3 (heads w h r) w.bd (ix2 b n) = packedCell (pack w) (fun i => r (ix3 0 b i)) (hrow h b) n := by
  rw [new_at]
  simp only [heads_at]
  rfl

/-- The input block with batch and time swapped, at an index. -/
theorem swapped_at (x : Vec Ideal S64x32x256 .f32) (k : Fin 32) (b : Fin 64) (i : Fin 256) :
    k0_pay2 x (ix3 k b i) = x (ix3 b k i) := by
  unfold k0_pay2
  pointwise

/-- Where trip `k` reads the swapped block. -/
theorem off1_eq : ∀ k : Fin k0_t1_loop.trips, k0_off1 k = ![k.val, 0, 0] := by decide +kernel

/-- Trip `k`'s slab, at an index. -/
theorem slab_at (xp : Vec Ideal S32x64x256 .bf16) (k : Fin k0_t1_loop.trips) (b : Fin 64) (i : Fin 256) :
    slab xp k (ix3 0 b i) = xp (ix3 ⟨k.val, Nat.lt_of_lt_of_eq k.isLt trips_eq⟩ b i) := by
  unfold slab
  congr 1
  funext a
  apply Fin.ext
  refine (Rect.idx_unit_val _ _ _ _ a).trans ((congrArg (· + _) (congrFun (off1_eq k) a)).trans ?_)
  match a with
  | ⟨0, _⟩ => exact Nat.add_zero _
  | ⟨1, _⟩ => exact Nat.zero_add _
  | ⟨2, _⟩ => exact Nat.zero_add _

section Row

variable {w : Weights Ideal} {p : Params} (hw : Packs (pack w) p) (hp : Addable p)
variable (x : Vec Ideal S64x32x256 .f32) (h0 : Vec Ideal S64x512 .bf16) (b : Fin 64) (X : ℕ → Fin 256 → EReal) (T : ℕ)
variable (hx : ∀ k : Fin 32, (fun i => x (ix3 b k i)) = X (T + k.val)) (hh : hrow h0 b = hid p X T)

include hw hp hx

/-- One trip's new hidden state is one step of the cell. -/
theorem trip_row (k : Fin k0_t1_loop.trips) (h : Vec Ideal S64x512 .bf16) (hk : hrow h b = hid p X (T + k.val)) (n : Fin 512) :
    k0_pay3 (heads w h (slab (k0_pay2 x) k)) w.bd (ix2 b n) = hid p X (T + k.val + 1) n := by
  rw [step_at, packedCell_eq hw _ _ hp, hk, hid]
  simp only [slab_at, swapped_at]
  rw [hx]

include hh

/-- The hidden state before each trip. -/
theorem carry_row : ∀ k, k ≤ k0_t1_loop.trips → hrow (carry w (k0_pay2 x) h0 k) b = hid p X (T + k)
  | 0, _ => hh
  | k + 1, hk => by
    funext n
    unfold hrow
    rw [carry_succ w _ _ ⟨k, hk⟩]
    exact trip_row hw hp x b X T hx ⟨k, hk⟩ _ (carry_row k (by omega)) n

/-- The hidden state the grid point leaves for the next. -/
theorem stateOut_row : hrow (stateOut w x h0) b = hid p X (T + 32) := by
  have h := carry_row hw hp x h0 b X T hx hh _ le_rfl
  rw [trips_eq] at h
  rw [← h]
  funext n
  unfold hrow stateOut k0_pay6
  pointwise
  rw [trips_eq]

/-- The block of results: the new hidden state of each step. -/
theorem blockOut_at (k : Fin 32) (n : Fin 512) : blockOut w x h0 (ix3 b k n) = hid p X (T + k.val + 1) n := by
  unfold blockOut k0_pay7
  pointwise
  unfold rows rowOut k0_pay4
  have h := trip_row hw hp x b X T hx ⟨k.val, by rw [trips_eq]; exact k.isLt⟩ _
    (carry_row hw hp x h0 b X T hx hh k.val (by rw [trips_eq]; exact k.isLt.le)) n
  rw [← h, show inSlab (ix3 k b n) = ix3 0 b n from by funext a; match a with | ⟨0, _⟩ => rfl | ⟨1, _⟩ => rfl | ⟨2, _⟩ => rfl]
  pointwise

end Row

end Cert.KernelIdeal.Hand

end
-- ==== Proof.KernelIdealArgs.lean ====
/- The blocks the kernel's windows hold, in terms of the arguments: the host code before the launch transposes the
   weights, splits the first layer, and lays the heads side by side. -/
module

public import proofs.«01_k».proof.Proof.KernelIdealRun
public import proofs.«01_k».proof.Proof.KernelIdealStep
public import Idealize.ShloMosaic.Lib.StableHlo.ReadAt

@[expose] public section

set_option maxRecDepth 16384

noncomputable section

namespace Cert.KernelIdeal.Hand

open Cert.KernelIdeal Cert.KernelIdeal.Gen Cert.Cfc
open Idealize.ShloMosaic Idealize.ShloMosaic.TcCoe Idealize.ShloMosaic.Tactic Idealize.ShloMosaic.Pointwise

variable (m : (ℓ : Loc nD τ sig) → Buf (Elt Ideal) ℓ) (c : Dev nD)

/-- The arguments, as arrays of extended reals. -/
abbrev argX : Vec Ideal S64x512x256 .f32 := m ((c.tc : Thread nD τ).loc main_arg0)
abbrev argW1 : Vec Ideal S1024x768 .f32 := m ((c.tc : Thread nD τ).loc main_arg1)
abbrev argB1 : Vec Ideal S1024 .f32 := m ((c.tc : Thread nD τ).loc main_arg2)
abbrev argW2 : Vec Ideal S1024x1024 .f32 := m ((c.tc : Thread nD τ).loc main_arg3)
abbrev argB2 : Vec Ideal S1024 .f32 := m ((c.tc : Thread nD τ).loc main_arg4)
abbrev argWf : Vec Ideal S512x1024 .f32 := m ((c.tc : Thread nD τ).loc main_arg5)
abbrev argBf : Vec Ideal S512 .f32 := m ((c.tc : Thread nD τ).loc main_arg6)
abbrev argWg : Vec Ideal S512x1024 .f32 := m ((c.tc : Thread nD τ).loc main_arg7)
abbrev argBg : Vec Ideal S512 .f32 := m ((c.tc : Thread nD τ).loc main_arg8)
abbrev argWa : Vec Ideal S512x1024 .f32 := m ((c.tc : Thread nD τ).loc main_arg9)
abbrev argBa : Vec Ideal S512 .f32 := m ((c.tc : Thread nD τ).loc main_arg10)
abbrev argWb : Vec Ideal S512x1024 .f32 := m ((c.tc : Thread nD τ).loc main_arg11)
abbrev argBb : Vec Ideal S512 .f32 := m ((c.tc : Thread nD τ).loc main_arg12)

/-- The arguments as the weights and biases of the cell. -/
def params : Params where
  w1 k i := argW1 m c (ix2 k i)
  b1 k := argB1 m c (ix1 k)
  w2 k i := argW2 m c (ix2 k i)
  b2 k := argB2 m c (ix1 k)
  wf n k := argWf m c (ix2 n k)
  bf n := argBf m c (ix1 n)
  wg n k := argWg m c (ix2 n k)
  bg n := argBg m c (ix1 n)
  wa n k := argWa m c (ix2 n k)
  ba n := argBa m c (ix1 n)
  wb n k := argWb m c (ix2 n k)
  bb n := argBb m c (ix1 n)

section Host

/-- The first layer's input rows, as the host code lays them out. -/
theorem V_wx (i : Fin 256) (k : Fin 1024) :
    (Gen.V m c main_v2 : Vec Ideal S256x1024 .bf16) (ix2 i k) = (params m c).w1 k (atInput i) := by
  unfold Gen.V
  after_reads_at
  rfl

/-- The first layer's hidden rows. -/
theorem V_wh (l : Fin 512) (k : Fin 1024) :
    (Gen.V m c main_v5 : Vec Ideal S512x1024 .bf16) (ix2 l k) = (params m c).w1 k (atHidden l) := by
  unfold Gen.V
  after_reads_at
  rfl

/-- The second layer. -/
theorem V_w2 (i k : Fin 1024) : (Gen.V m c main_v7 : Vec Ideal S1024x1024 .bf16) (ix2 i k) = (params m c).w2 k i := by
  unfold Gen.V
  after_reads_at
  rfl

/-- The first two biases. -/
theorem V_b1 (k : Fin 1024) : (Gen.V m c main_v14 : Vec Ideal S1x1024 .f32) (ix2 0 k) = (params m c).b1 k := by
  unfold Gen.V
  after_reads_at
  rfl
theorem V_b2 (k : Fin 1024) : (Gen.V m c main_v15 : Vec Ideal S1x1024 .f32) (ix2 0 k) = (params m c).b2 k := by
  unfold Gen.V
  after_reads_at
  rfl

/-- The heads' weights side by side, as one term over the arguments. -/
theorem V_wd (k : Fin 1024) (n : Fin 1536) : (Gen.V m c main_v13 : Vec Ideal S1024x1536 .bf16) (ix2 k n)
    = if h : n.val < 512 then (params m c).wf ⟨n.val, h⟩ k
      else if h' : n.val - 512 < 512 then (params m c).wg ⟨n.val - 512, h'⟩ k
      else (params m c).wa ⟨n.val - 512 - 512, by omega⟩ k + (params m c).wb ⟨n.val - 512 - 512, by omega⟩ k := by
  unfold Gen.V
  after_reads_at
  refine dite_congr rfl (fun _ => ?_) fun _ => dite_congr rfl (fun _ => ?_) fun _ => ?_
  · after_reads_at
    rfl
  · after_reads_at
    rfl
  · after_reads_at
    rfl

/-- The heads' biases side by side. -/
theorem V_bd (n : Fin 1536) : (Gen.V m c main_v18 : Vec Ideal S1x1536 .f32) (ix2 0 n)
    = if h : n.val < 512 then (params m c).bf ⟨n.val, h⟩
      else if h' : n.val - 512 < 512 then (params m c).bg ⟨n.val - 512, h'⟩
      else (params m c).ba ⟨n.val - 512 - 512, by omega⟩ + (params m c).bb ⟨n.val - 512 - 512, by omega⟩ := by
  unfold Gen.V
  after_reads_at
  refine dite_congr rfl (fun _ => ?_) fun _ => dite_congr rfl (fun _ => ?_) fun _ => ?_
  · after_reads_at
    rfl
  · after_reads_at
    rfl
  · after_reads_at
    rfl

end Host

section Blocks

theorem index_0 : ∀ t : Fin cfg0.N, win0_0.index t = ![0, t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, t.val, 0] := (by decide +kernel : ∀ t : Fin grid0.N, _)

variable (t : Fin cfg0.N)

/-- A weight window holds its whole array at every point. -/
theorem wx_at (i : Fin 256) (k : Fin 1024) : (wts m c t).wx (ix2 i k) = (V m c main_v2 : Vec Ideal S256x1024 .bf16) (ix2 i k) := by
  show iblk m c 1 t (ix2 i k) = _
  blk_simp [iblk]
  blk_ext [index_1]
theorem wh_at (i : Fin 512) (k : Fin 1024) : (wts m c t).wh (ix2 i k) = (V m c main_v5 : Vec Ideal S512x1024 .bf16) (ix2 i k) := by
  show iblk m c 2 t (ix2 i k) = _
  blk_simp [iblk]
  blk_ext [index_2]
theorem w2_at (i : Fin 1024) (k : Fin 1024) : (wts m c t).w2 (ix2 i k) = (V m c main_v7 : Vec Ideal S1024x1024 .bf16) (ix2 i k) := by
  show iblk m c 3 t (ix2 i k) = _
  blk_simp [iblk]
  blk_ext [index_3]
theorem wd_at (i : Fin 1024) (k : Fin 1536) : (wts m c t).wd (ix2 i k) = (V m c main_v13 : Vec Ideal S1024x1536 .bf16) (ix2 i k) := by
  show iblk m c 4 t (ix2 i k) = _
  blk_simp [iblk]
  blk_ext [index_4]
theorem b1_at (i : Fin 1) (k : Fin 1024) : (wts m c t).b1 (ix2 i k) = (V m c main_v14 : Vec Ideal S1x1024 .f32) (ix2 i k) := by
  show iblk m c 5 t (ix2 i k) = _
  blk_simp [iblk]
  blk_ext [index_5]
theorem b2_at (i : Fin 1) (k : Fin 1024) : (wts m c t).b2 (ix2 i k) = (V m c main_v15 : Vec Ideal S1x1024 .f32) (ix2 i k) := by
  show iblk m c 6 t (ix2 i k) = _
  blk_simp [iblk]
  blk_ext [index_6]
theorem bd_at (i : Fin 1) (k : Fin 1536) : (wts m c t).bd (ix2 i k) = (V m c main_v18 : Vec Ideal S1x1536 .f32) (ix2 i k) := by
  show iblk m c 7 t (ix2 i k) = _
  blk_simp [iblk]
  blk_ext [index_7]

/-- The grid has sixteen points. -/
theorem points_eq : cfg0.N = 16 := by decide +kernel

/-- Step `k` of point `t` is one of the 512 times. -/
theorem time_lt (k : Fin 32) : 32 * t.val + k.val < 512 := by
  have h := Nat.lt_of_lt_of_eq t.isLt points_eq
  omega

/-- The input window's block at a point: thirty-two of each row's times. -/
theorem x_at (b : Fin 64) (k : Fin 32) (i : Fin 256) :
    xblk m c t (ix3 b k i) = argX m c (ix3 b ⟨32 * t.val + k.val, time_lt t k⟩ i) := by
  show iblk m c 0 t (ix3 b k i) = _
  blk_simp [iblk]
  refine (congrFun (Gen.V_main_arg0 m c) _).trans (congrArg (argX m c) ?_)
  blk_ext [index_0]

/-- The three heads' columns of the packed weights, and of the packed biases. -/
theorem wd_first (k : Fin 1024) (n : Fin 512) : (wts m c t).wd (ix2 k (atFirst n)) = (params m c).wf n k := by
  rw [wd_at, V_wd, dif_pos n.isLt]
theorem wd_second (k : Fin 1024) (n : Fin 512) : (wts m c t).wd (ix2 k (atSecond n)) = (params m c).wg n k := by
  rw [wd_at, V_wd, dif_neg (show ¬ 512 + n.val < 512 by omega), dif_pos (show 512 + n.val - 512 < 512 by omega)]
  exact congrArg (fun i => (params m c).wg i k) (Fin.ext (Nat.add_sub_cancel_left _ _))
theorem wd_third (k : Fin 1024) (n : Fin 512) :
    (wts m c t).wd (ix2 k (atThird n)) = (params m c).wa n k + (params m c).wb n k := by
  rw [wd_at, V_wd, dif_neg (show ¬ 1024 + n.val < 512 by omega), dif_neg (show ¬ 1024 + n.val - 512 < 512 by omega)]
  exact congrArg (fun i => (params m c).wa i k + (params m c).wb i k) (Fin.ext (show 1024 + n.val - 512 - 512 = n.val by omega))
theorem bd_first (n : Fin 512) : (wts m c t).bd (ix2 0 (atFirst n)) = (params m c).bf n := by
  rw [bd_at, V_bd, dif_pos n.isLt]
theorem bd_second (n : Fin 512) : (wts m c t).bd (ix2 0 (atSecond n)) = (params m c).bg n := by
  rw [bd_at, V_bd, dif_neg (show ¬ 512 + n.val < 512 by omega), dif_pos (show 512 + n.val - 512 < 512 by omega)]
  exact congrArg (params m c).bg (Fin.ext (Nat.add_sub_cancel_left _ _))
theorem bd_third (n : Fin 512) : (wts m c t).bd (ix2 0 (atThird n)) = (params m c).ba n + (params m c).bb n := by
  rw [bd_at, V_bd, dif_neg (show ¬ 1024 + n.val < 512 by omega), dif_neg (show ¬ 1024 + n.val - 512 < 512 by omega)]
  exact congrArg (fun i => (params m c).ba i + (params m c).bb i) (Fin.ext (show 1024 + n.val - 512 - 512 = n.val by omega))

/-- The other weights and biases of the packed layout. -/
theorem wx_of (i : Fin 256) (k : Fin 1024) : (wts m c t).wx (ix2 i k) = (params m c).w1 k (atInput i) := by
  rw [wx_at, V_wx]
theorem wh_of (l : Fin 512) (k : Fin 1024) : (wts m c t).wh (ix2 l k) = (params m c).w1 k (atHidden l) := by
  rw [wh_at, V_wh]
theorem w2_of (i k : Fin 1024) : (wts m c t).w2 (ix2 i k) = (params m c).w2 k i := by
  rw [w2_at, V_w2]
theorem b1_of (k : Fin 1024) : (wts m c t).b1 (ix2 0 k) = (params m c).b1 k := by
  rw [b1_at, V_b1]
theorem b2_of (k : Fin 1024) : (wts m c t).b2 (ix2 0 k) = (params m c).b2 k := by
  rw [b2_at, V_b2]

/-- Every point's weights are the arguments', packed. -/
theorem packs : Packs (pack (wts m c t)) (params m c) :=
  ⟨wx_of m c t, wh_of m c t, w2_of m c t, b1_of m c t, b2_of m c t, wd_first m c t, wd_second m c t, wd_third m c t,
    bd_first m c t, bd_second m c t, bd_third m c t⟩

end Blocks
end Cert.KernelIdeal.Hand

end
-- ==== Proof.Precondition.lean ====
/- What the precondition says: no entry of the two time heads' weights holds infinities of opposite sign. -/
module

public import proofs.«01_k».proof.Defs
public import proofs.«01_k».proof.Proof.KernelIdealArgs

@[expose] public section

noncomputable section

namespace Cert.KernelIdeal.Hand

open Cert.KernelIdeal Cert.Cfc
open Idealize.ShloMosaic Idealize.ShloMosaic.TcCoe Idealize.ShloMosaic.Pointwise
open Idealize.SL.Sem

/-- The one shape relation the precondition states: a scalar spreads over the time weights. -/
theorem pre_facts : Cert.Pre_sums_defined.Facts := ⟨by decide⟩

/-- The word of negative infinity. -/
theorem ofBits_bot : Ideal.ofBits .f32 0xFF800000#32 = ⊥ := by
  unfold Ideal.ofBits Ideal.ieee
  dsimp only
  rw [if_pos (by decide)]
  simp

/-- The word of positive infinity. -/
theorem ofBits_top : Ideal.ofBits .f32 0x7F800000#32 = ⊤ := by
  unfold Ideal.ofBits Ideal.ieee
  dsimp only
  rw [if_pos (by decide)]
  simp

/-- The precondition's four one-bit words give one exactly when the first two or the last two are true. -/
theorem bits_eq_one (p q r s : Bool) :
    IntOp.ori (IntOp.andi (BitVec.ofBool p) (BitVec.ofBool q)) (IntOp.andi (BitVec.ofBool r) (BitVec.ofBool s)) = 1#1
      ↔ (p = true ∧ q = true) ∨ (r = true ∧ s = true) := by
  revert p q r s
  decide

variable (m : (ℓ : Loc nD τ sig) → Buf (Elt Ideal) ℓ) (c : Dev nD)

/-- Under the precondition, the arguments' time weights can be added entry by entry. -/
theorem addable (h : Cert.Pre_KernelIdeal_sums_defined (hPre_sums_defined := pre_facts) m) : Addable (params m c) := by
  intro n k
  have e := congrFun (h c) (ix2 n k)
  unfold Cert.Pre_sums_defined.fn at e
  pointwise at e
  rw [bits_eq_one, ofBits_bot, ofBits_top] at e
  simp only [decide_eq_true_eq] at e
  exact e

end Cert.KernelIdeal.Hand

end
-- ==== Proof.KernelIdealValue.lean ====
/- The array the kernel leaves: at each row of the batch and each time, the hidden state after that time's step. -/
module

public import proofs.«01_k».proof.Proof.KernelIdealArgs

@[expose] public section

set_option maxRecDepth 16384

noncomputable section

namespace Cert.KernelIdeal.Hand

open Cert.KernelIdeal Cert.KernelIdeal.Gen Cert.Cfc
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- The inputs of row `b` of the batch, time by time (zeros after the last). -/
def inputs (b : Fin 64) (t : ℕ) (i : Fin 256) : EReal :=
  if h : t < 512 then argX m c (ix3 b ⟨t, h⟩ i) else 0

/-- The result: the hidden state of its row after its time's step. -/
def result : Vec Ideal S64x512x512 .f32 := fun y => hid (params m c) (inputs m c (y 0)) ((y 1).val + 1) (y 2)

/-- A point's block holds its thirty-two times of the row's inputs. -/
theorem block_inputs (t : Fin cfg0.N) (b : Fin 64) (k : Fin 32) :
    (fun i => xblk m c t (ix3 b k i)) = inputs m c b (32 * t.val + k.val) := by
  funext i
  rw [x_at, inputs, dif_pos (time_lt t k)]

/-- The first hidden state is zero. -/
theorem zero_row (b : Fin 64) : hrow (k0_pay1 (F := Ideal)) b = fun _ => 0 := by
  funext n
  unfold hrow k0_pay1
  pointwise

variable (hp : Addable (params m c))

include hp

/-- The hidden state each point starts from. -/
theorem start_row (b : Fin 64) : ∀ (n : ℕ) (h : n < cfg0.N),
    hrow (start (grid0.coords ⟨n, h⟩) (hAt m c n)) b = hid (params m c) (inputs m c b) (32 * n)
  | 0, h => by
    rw [start, if_pos (coords_val ⟨0, h⟩)]
    exact zero_row b
  | n + 1, h => by
    have hn : n < cfg0.N := Nat.lt_of_succ_lt h
    rw [start, if_neg (fun e => Nat.succ_ne_zero n ((coords_val ⟨n + 1, h⟩).symm.trans e)), hAt_succ m c ⟨n, hn⟩]
    exact stateOut_row (packs m c ⟨n, hn⟩) hp _ _ b _ (32 * n) (block_inputs m c ⟨n, hn⟩ b) (start_row b n hn)

/-- A point's output block, at an index. -/
theorem outAt_at (t : Fin cfg0.N) (b : Fin 64) (k : Fin 32) (n : Fin 512) :
    outAt m c t (ix3 b k n) = hid (params m c) (inputs m c b) (32 * t.val + k.val + 1) n :=
  blockOut_at (packs m c t) hp _ _ b _ (32 * t.val) (block_inputs m c t b) (start_row m c hp b t.val t.isLt) k n

/-- A point's output block is its thirty-two times of the result. -/
theorem block_result (t : Fin cfg0.N) (y : S64x32x512.Idx) : outAt m c t y = result m c ((win0_8.blk t).view.emb y) := by
  have e : (win0_8.blk t).view.emb y = ix3 (y 0) ⟨32 * t.val + (y 1).val, time_lt t (y 1)⟩ (y 2) := by
    blk_ext [index_8]
  rw [e, eq_ix3 y]
  exact outAt_at m c hp t (y 0) (y 1) (y 2)

/-- The result array after the last point. -/
theorem array_eq : (dats m 0 c).arrAt 8 cfg0.N = result m c := by
  refine (dats m 0 c).arrAt_eq_of_covers 8 _ (by decide +kernel) fun t hf y => ?_
  blk_simp
  rw [after_8]
  exact block_result m c hp t y

end Cert.KernelIdeal.Hand

end
-- ==== Proof.ReferenceIdealStep.lean ====
/- One trip of the reference's loop at an index: the cell's mathematics, and the row it writes. -/
module

public import proofs.«01_k».proof.Proof.ReferenceIdealScan
public import proofs.«01_k».proof.Proof.Cell
public import Idealize.ShloMosaic.Lib.Pointwise

@[expose] public section

set_option maxRecDepth 16384

noncomputable section

namespace Cert.ReferenceIdeal.Hand

open Cert.ReferenceIdeal Cert.ReferenceIdeal.Gen Cert.ReferenceIdeal.Step Cert.Cfc
open Idealize.ShloMosaic Idealize.ShloMosaic.TcCoe Idealize.ShloMosaic.Pointwise

/-- The weights and biases a state carries, as the cell's. -/
def weights (s : State Ideal) : Params where
  w1 k i := s.main_v3_1 (ix2 k i)
  b1 k := s.main_v3_2 (ix1 k)
  w2 k i := s.main_v3_3 (ix2 k i)
  b2 k := s.main_v3_4 (ix1 k)
  wf n k := s.main_v3_5 (ix2 n k)
  bf n := s.main_v3_6 (ix1 n)
  wg n k := s.main_v3_7 (ix2 n k)
  bg n := s.main_v3_8 (ix1 n)
  wa n k := s.main_v3_9 (ix2 n k)
  ba n := s.main_v3_10 (ix1 n)
  wb n k := s.main_v3_11 (ix2 n k)
  bb n := s.main_v3_12 (ix1 n)

variable (j : ℕ) (hj : j < 512) (s : State Ideal)

/-- The hidden state of a row of the batch. -/
abbrev hiddenRow (b : Fin 64) : Fin 512 → EReal := fun l => s.main_v3_15 (ix2 b l)

/-- The inputs of a row of the batch at the trip's time. -/
abbrev inputRow (b : Fin 64) : Fin 256 → EReal := fun i => s.main_v3_0 (ix3 ⟨j, hj⟩ b i)

/-- A trip's number, read as a signed word, is itself. -/
theorem number_toInt (h : j < 512) : (BitVec.ofNat 32 j).toInt = (j : ℤ) := by
  rw [BitVec.toInt_ofNat', Int.bmod_eq_of_le] <;> omega

/-- Where the trip reads and writes: its number, then zero twice. -/
abbrev starts (k : Fin 3) : ℤ :=
  BitVec.toInt ((![constantI S_ 32 (BitVec.ofNat 32 j), constantI S_ 32 0#32, constantI S_ 32 0#32] : Fin 3 → _) k
    (Shape.Idx.first h_S_))

include hj in
/-- The places lie inside the input, so they are taken as they are. -/
theorem read_starts : (Host.clampedStart S512x64x256 S1x64x256 rfl (starts j) 0 = j
    ∧ Host.clampedStart S512x64x256 S1x64x256 rfl (starts j) 1 = 0)
    ∧ Host.clampedStart S512x64x256 S1x64x256 rfl (starts j) 2 = 0 := by
  have at_ (a : Fin 3) (k : ℕ) (h : starts j a = k) (hk : k + S1x64x256.size a ≤ S512x64x256.size a) :
      Host.clampedStart S512x64x256 S1x64x256 rfl (starts j) a = k :=
    Host.clampedStart_of_le (s := S512x64x256) (t := S1x64x256) rfl (starts j) a k h hk
  exact ⟨⟨at_ 0 j (number_toInt j hj) hj, at_ 1 0 rfl (by decide)⟩, at_ 2 0 rfl (by decide)⟩

include hj in
/-- The places lie inside the rows, so they are taken as they are. -/
theorem write_starts : (Host.clampedStart S512x64x512 S1x64x512 rfl (starts j) 0 = j
    ∧ Host.clampedStart S512x64x512 S1x64x512 rfl (starts j) 1 = 0)
    ∧ Host.clampedStart S512x64x512 S1x64x512 rfl (starts j) 2 = 0 := by
  have at_ (a : Fin 3) (k : ℕ) (h : starts j a = k) (hk : k + S1x64x512.size a ≤ S512x64x512.size a) :
      Host.clampedStart S512x64x512 S1x64x512 rfl (starts j) a = k :=
    Host.clampedStart_of_le (s := S512x64x512) (t := S1x64x512) rfl (starts j) a k h hk
  exact ⟨⟨at_ 0 j (number_toInt j hj) hj, at_ 1 0 rfl (by decide)⟩, at_ 2 0 rfl (by decide)⟩

/-- The trip's time of the input. -/
theorem slice_at (b : Fin 64) (i : Fin 256) : b2 j s (ix3 (0 : Fin 1) b i) = inputRow j hj s b i := by
  unfold b2 b0 b1
  pointwise
  obtain ⟨⟨h0, h1⟩, h2⟩ := read_starts j hj
  simp only [h0, h1, h2, Nat.zero_add]

/-- The backbone's features of a row of the batch. -/
theorem features_at (b : Fin 64) (n : Fin 1024) :
    b28 j s (ix2 b n) = layer2 (weights s) (inputRow j hj s b) (hiddenRow s b) n := by
  have hx : inputRow j hj s b = fun i => b2 j s (ix3 (0 : Fin 1) b i) := funext fun i => (slice_at j hj s b i).symm
  rw [hx]
  unfold b28 b27 b26 b25 b24 b23 b22 b21 b20 b19 b18 b17 b16 b15 b14 b13 b12 b11 b10 b9 b8 b7 b6 b5 b4 b3
  pointwise
  rfl

/-- The new hidden state of a row of the batch. -/
theorem cell_at (b : Fin 64) (n : Fin 512) :
    b67 j s (ix2 b n) = cell (weights s) (inputRow j hj s b) (hiddenRow s b) n := by
  unfold b67 b66 b65 b64 b63 b62 b61 b60 b59 b58 b57 b56 b55 b54 b53 b52 b51 b50 b49 b48 b47 b46 b45 b44 b43 b42 b41 b40
    b39 b38 b37 b36 b35 b34 b33 b32 b31 b30 b29 K_main_cst_0
  pointwise
  simp only [features_at j hj s b]
  rfl

include hj in
/-- The rows after a trip: the new hidden states at the trip's time, the rows before elsewhere. -/
theorem rows_at (t : Fin 512) (b : Fin 64) (n : Fin 512) :
    b71 j s (ix3 t b n) = if t.val = j then b67 j s (ix2 b n) else s.main_v3_16 (ix3 t b n) := by
  unfold b71 b70 b69 b68
  pointwise
  obtain ⟨⟨h0, h1⟩, h2⟩ := write_starts j hj
  simp only [h0, h1, h2, Nat.sub_zero, Nat.zero_le, and_true]
  by_cases e : t.val = j
  · rw [dif_pos (by omega), if_pos e]
  · rw [dif_neg (by omega), if_neg e]

end Cert.ReferenceIdeal.Hand

end
-- ==== Proof.ReferenceIdealValue.lean ====
/- The array the reference leaves: at each row of the batch and each time, the hidden state after that time's step. -/
module

public import proofs.«01_k».proof.Proof.ReferenceIdealStep

@[expose] public section

set_option maxRecDepth 16384

noncomputable section

namespace Cert.ReferenceIdeal.Hand

open Cert.ReferenceIdeal Cert.ReferenceIdeal.Gen Cert.ReferenceIdeal.Step Cert.Cfc
open Idealize.ShloMosaic Idealize.ShloMosaic.TcCoe Idealize.ShloMosaic.Pointwise
open Idealize.SL.Sem

variable (m : (ℓ : Loc nD τ sig) → Buf (Elt Ideal) ℓ) (c : Dev nD)

/-- The input, as an array of extended reals. -/
abbrev argX : Vec Ideal S64x512x256 .f32 := m ((c.tc : Thread nD τ).loc main_arg0)

/-- The arguments as the weights and biases of the cell. -/
def params : Params := weights (states m c 0)

/-- The inputs of row `b` of the batch, time by time (zeros after the last). -/
def inputs (b : Fin 64) (t : ℕ) (i : Fin 256) : EReal :=
  if h : t < 512 then argX m c (ix3 b ⟨t, h⟩ i) else 0

/-- Every state carries the weights it was given. -/
theorem states_weights : ∀ n, weights (states m c n) = params m c
  | 0 => rfl
  | n + 1 => (rfl : weights (states m c (n + 1)) = weights (states m c n)).trans (states_weights n)

/-- Every state carries the input with time and batch swapped. -/
theorem states_input : ∀ n, (states m c n).main_v3_0 = A_main_v1 (argX m c)
  | 0 => rfl
  | n + 1 => (rfl : (states m c (n + 1)).main_v3_0 = (states m c n).main_v3_0).trans (states_input n)

/-- A trip reads the inputs of its own time. -/
theorem inputRow_eq (n : ℕ) (h : n < 512) (b : Fin 64) : inputRow n h (states m c n) b = inputs m c b n := by
  funext i
  rw [inputRow, states_input, inputs, dif_pos h]
  unfold A_main_v1
  pointwise

/-- The first hidden state is zero. -/
theorem first_row (b : Fin 64) : hiddenRow (states m c 0) b = fun _ => 0 := by
  funext n
  show (K_main_v0 (F := Ideal)) (ix2 b n) = 0
  unfold K_main_v0 K_main_cst
  pointwise

/-- The hidden state of a row of the batch before each trip. -/
theorem hidden_states (b : Fin 64) : ∀ n, n ≤ 512 → hiddenRow (states m c n) b = hid (params m c) (inputs m c b) n
  | 0, _ => first_row m c b
  | n + 1, h => by
    funext k
    refine (cell_at n h (states m c n) b k).trans ?_
    rw [states_weights, inputRow_eq, hidden_states b n (Nat.le_of_succ_le h)]
    rfl

/-- The rows written before each trip. -/
theorem rows_states (t : Fin 512) (b : Fin 64) (k : Fin 512) : ∀ n, n ≤ 512 → t.val < n →
    (states m c n).main_v3_16 (ix3 t b k) = hid (params m c) (inputs m c b) (t.val + 1) k
  | 0, _, h => absurd h (Nat.not_lt_zero _)
  | n + 1, hn, h => by
    refine (rows_at n hn (states m c n) t b k).trans ?_
    by_cases e : t.val = n
    · rw [if_pos e, e, ← hidden_states m c b (n + 1) hn]
      rfl
    · rw [if_neg e]
      exact rows_states t b k n (Nat.le_of_succ_le hn) (by omega)

/-- The reference's result. -/
theorem value_eq : R_main_v4 (states m c 512) =
    fun y : S64x512x512.Idx => hid (params m c) (inputs m c (y 0)) ((y 1).val + 1) (y 2) := by
  funext y
  rw [eq_ix3 y]
  refine Eq.trans ?_ (rows_states m c (y 1) (y 0) (y 2) 512 le_rfl (y 1).isLt)
  unfold R_main_v4
  pointwise

end Cert.ReferenceIdeal.Hand

end
-- ==== Proof.Algebraic.lean ====
/- The value claim: on the same arguments, under the precondition, the kernel and the reference leave the same array. -/
module

public import proofs.«01_k».proof.Defs
public import proofs.«01_k».proof.Proof.Gen.KernelIdeal
public import proofs.«01_k».proof.Proof.Gen.ReferenceIdeal
public import proofs.«01_k».proof.Proof.KernelIdealValue
public import proofs.«01_k».proof.Proof.ReferenceIdealRun
public import proofs.«01_k».proof.Proof.ReferenceIdealValue
public import proofs.«01_k».proof.Proof.Precondition

@[expose] public section

noncomputable section

namespace Cert.Proof

open Idealize.ShloMosaic Idealize.ShloMosaic.TcCoe Idealize.SL Idealize.SL.Sem

variable (m : (ℓ : Loc KernelIdeal.nD KernelIdeal.τ KernelIdeal.sig) → Buf (Elt Ideal) ℓ)

/-- The kernel's run leaves the hidden states in its result. -/
theorem kernel_value (g : Dev KernelIdeal.nD → PrngReg) (hp : ∀ c, Cfc.Addable (KernelIdeal.Hand.params m c)) :
    θ_run (KernelIdeal.defs (F := Ideal)) (onTc (τ := KernelIdeal.τ) (KernelIdeal.main (F := Ideal))) ⟨m, fun _ => 0, g⟩
      fun r => ∀ c : Dev KernelIdeal.nD,
        r.2.mem ((c.tc : Thread KernelIdeal.nD KernelIdeal.τ).loc KernelIdeal.main_v19) = KernelIdeal.Hand.result m c :=
  (θ_run (KernelIdeal.defs (F := Ideal)) _ _).mono
    (fun _ h c => ((h.1 c).1 8).trans (KernelIdeal.Hand.array_eq m c (hp c))) (KernelIdeal.Hand.run_main m g)

/-- On equal arguments the two programs' cells have equal weights and inputs, so equal results. -/
theorem results_eq (m' : (ℓ : Loc ReferenceIdeal.nD ReferenceIdeal.τ ReferenceIdeal.sig) → Buf (Elt Ideal) ℓ)
    (c : Dev KernelIdeal.nD) (hP : ReferenceIdeal.Hand.params m' c = KernelIdeal.Hand.params m c)
    (hX : ReferenceIdeal.Hand.argX m' c = KernelIdeal.Hand.argX m c) :
    ReferenceIdeal.Step.R_main_v4 (ReferenceIdeal.Hand.states m' c 512) = KernelIdeal.Hand.result m c := by
  refine (ReferenceIdeal.Hand.value_eq m' c).trans ?_
  have hI : ReferenceIdeal.Hand.inputs m' c = KernelIdeal.Hand.inputs m c := by
    unfold ReferenceIdeal.Hand.inputs KernelIdeal.Hand.inputs
    rw [hX]
  rw [hP, hI]
  rfl

/-- The value claim. -/
theorem algebraic : Cert.algebraic_KernelIdeal_ReferenceIdeal_pre_sums_defined (hKernelIdeal := KernelIdeal.Gen.facts)
    (hReferenceIdeal := ReferenceIdeal.Gen.facts) (hPre_sums_defined := KernelIdeal.Hand.pre_facts) := by
  intro m g m' g' hpre hargs
  refine ⟨KernelIdeal.Hand.result m, ?_, ?_⟩
  · exact (θ_run (KernelIdeal.defs (F := Ideal)) _ _).mono (fun _ h c => ⟨h.1 c, h.2.1 c⟩)
      (θ_run_and (kernel_value m g fun c => KernelIdeal.Hand.addable m c hpre) (KernelIdeal.Hand.frame m g))
  · refine (θ_run (ReferenceIdeal.defs (F := Ideal)) _ _).mono (fun _ h c => ⟨(h c).1.trans ?_, (h c).2⟩)
      (ReferenceIdeal.Hand.run m' g')
    obtain ⟨hX, h1, h2, h3, h4, h5, h6, h7, h8, h9, h10, h11, h12⟩ := hargs c
    refine results_eq m m' c ?_ hX
    unfold ReferenceIdeal.Hand.params ReferenceIdeal.Hand.states
    rw [h1, h2, h3, h4, h5, h6, h7, h8, h9, h10, h11, h12]
    rfl

end Cert.Proof

end
-- ==== Proof.lean ====
/- The claim: the frames, that the idealised kernel is the kernel's own text, and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.ReferenceIdealRun
public import proofs.«01_k».proof.Proof.Precondition
public import proofs.«01_k».proof.Proof.Algebraic

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.KernelIdeal.Hand.pre_facts,
  fun m g _ => Cert.Kernel.Hand.frame m g,
  fun m g _ => Cert.KernelIdeal.Hand.frame m g,
  fun m g _ => Cert.KernelIdeal.Hand.frame m g,
  fun m g _ => Cert.ReferenceIdeal.Hand.frame m g,
  fun m g _ => Cert.ReferenceIdeal.Hand.frame m g,
  trivial, algebraic⟩

end Cert.Proof

end
